-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_confidences_finite_classes_inside [hPre_confidences_finite_classes_inside : Cert.Pre_confidences_finite_classes_inside.Facts] (m : (ℓ : Loc Cert.KernelIdeal.nD Cert.KernelIdeal.τ Cert.KernelIdeal.sig) → Buf (Elt Ideal) ℓ) : Prop :=
  ∀ c : Dev Cert.KernelIdeal.nD,
    (Cert.Pre_confidences_finite_classes_inside.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_confidences_finite_classes_inside [hPre_confidences_finite_classes_inside : Cert.Pre_confidences_finite_classes_inside.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_confidences_finite_classes_inside.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_confidences_finite_classes_inside [hKernelIdeal : Cert.KernelIdeal.Facts] [hPre_confidences_finite_classes_inside : Cert.Pre_confidences_finite_classes_inside.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_confidences_finite_classes_inside m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_confidences_finite_classes_inside [hReferenceIdeal : Cert.ReferenceIdeal.Facts] [hPre_confidences_finite_classes_inside : Cert.Pre_confidences_finite_classes_inside.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_confidences_finite_classes_inside m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_confidences_finite_classes_inside [hKernelIdeal : Cert.KernelIdeal.Facts] [hReferenceIdeal : Cert.ReferenceIdeal.Facts] [hPre_confidences_finite_classes_inside : Cert.Pre_confidences_finite_classes_inside.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_confidences_finite_classes_inside m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v346) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_confidences_finite_classes_inside : Cert.Pre_confidences_finite_classes_inside.Facts),
    quiescent_Kernel (hKernel := hKernel)
    ∧ quiescent_KernelIdeal (hKernelIdeal := hKernelIdeal)
    ∧ quiescent_KernelIdeal_pre_confidences_finite_classes_inside (hKernelIdeal := hKernelIdeal) (hPre_confidences_finite_classes_inside := hPre_confidences_finite_classes_inside)
    ∧ quiescent_ReferenceIdeal (hReferenceIdeal := hReferenceIdeal)
    ∧ quiescent_ReferenceIdeal_pre_confidences_finite_classes_inside (hReferenceIdeal := hReferenceIdeal) (hPre_confidences_finite_classes_inside := hPre_confidences_finite_classes_inside)
    ∧ preserves_Kernel_KernelIdeal
    ∧ algebraic_KernelIdeal_ReferenceIdeal_pre_confidences_finite_classes_inside (hKernelIdeal := hKernelIdeal) (hReferenceIdeal := hReferenceIdeal) (hPre_confidences_finite_classes_inside := hPre_confidences_finite_classes_inside)
-- ==== Pre_confidences_finite_classes_inside.lean ====
abbrev S1024x14x14x30 : Shape := ⟨4, ![1024, 14, 14, 30]⟩
abbrev S_ : Shape := ⟨0, ![]⟩

class Facts : Prop where
  bcast_S_S1024x14x14x30 : S_.BroadcastsInDim S1024x14x14x30 (![] : Fin 0 → Fin S1024x14x14x30.rank)

variable [Facts]

def fn_where {F : FTy → Type} [FloatOps F] (arg0 : IVec S1024x14x14x30 1) (arg1 : IVec S1024x14x14x30 1) (arg2 : IVec S1024x14x14x30 1) : IVec S1024x14x14x30 1 :=
  let v0 : IVec S1024x14x14x30 1 := select arg0 arg1 arg2
  v0

def fn_part1 {F : FTy → Type} [FloatOps F] (main_arg0 : FVec F S1024x14x14x30 .f32) (main_arg1 : FVec F S1024x14x14x30 .f32) (main_v0 : IVec S1024x14x14x30 32) (main_v5 : IVec S1024x14x14x30 1) (main_v16 : IVec S1024x14x14x30 1) (main_c_4 : IVec S_ 32) : IVec S1024x14x14x30 1 :=
  let main_v17 : IVec S1024x14x14x30 32 := broadcastInDim S1024x14x14x30 ![] bcast_S_S1024x14x14x30 main_c_4
  let main_v18 : IVec S1024x14x14x30 1 := cmpi .sge main_v0 main_v17
  let main_v19 : IVec S1024x14x14x30 1 := noti main_v5
  let main_cst_5 : FVec F S_ .f32 := constant S_ .f32 0xFF800000#32
  let main_v20 : FVec F S1024x14x14x30 .f32 := broadcastInDim S1024x14x14x30 ![] bcast_S_S1024x14x14x30 main_cst_5
  let main_v21 : IVec S1024x14x14x30 1 := cmpf .ogt main_arg0 main_v20
  let main_cst_6 : FVec F S_ .f32 := constant S_ .f32 0x7F800000#32
  let main_v22 : FVec F S1024x14x14x30 .f32 := broadcastInDim S1024x14x14x30 ![] bcast_S_S1024x14x14x30 main_cst_6
  let main_v23 : IVec S1024x14x14x30 1 := cmpf .olt main_arg0 main_v22
  let main_v24 : IVec S1024x14x14x30 1 := andi main_v21 main_v23
  let main_cst_7 : FVec F S_ .f32 := constant S_ .f32 0xFF800000#32
  let main_v25 : FVec F S1024x14x14x30 .f32 := broadcastInDim S1024x14x14x30 ![] bcast_S_S1024x14x14x30 main_cst_7
  let main_v26 : IVec S1024x14x14x30 1 := cmpf .ogt main_arg1 main_v25
  let main_cst_8 : FVec F S_ .f32 := constant S_ .f32 0x7F800000#32
  let main_v27 : FVec F S1024x14x14x30 .f32 := broadcastInDim S1024x14x14x30 ![] bcast_S_S1024x14x14x30 main_cst_8
  let main_v28 : IVec S1024x14x14x30 1 := cmpf .olt main_arg1 main_v27
  let main_v29 : IVec S1024x14x14x30 1 := andi main_v26 main_v28
  let main_v30 : IVec S1024x14x14x30 1 := andi main_v24 main_v29
  let main_v31 : IVec S1024x14x14x30 1 := ori main_v19 main_v30
  let main_v32 : IVec S1024x14x14x30 1 := fn_where (F := F) main_v18 main_v16 main_v31
  main_v32

def fn {F : FTy → Type} [FloatOps F] (main_arg0 : FVec F S1024x14x14x30 .f32) (main_arg1 : FVec F S1024x14x14x30 .f32) : IVec S1024x14x14x30 1 :=
  let main_v0 : IVec S1024x14x14x30 32 := iotaInDim S1024x14x14x30 32 3
  let main_c : IVec S_ 32 := constantI S_ 32 4#32
  let main_v1 : IVec S1024x14x14x30 32 := broadcastInDim S1024x14x14x30 ![] bcast_S_S1024x14x14x30 main_c
  let main_v2 : IVec S1024x14x14x30 1 := cmpi .eq main_v0 main_v1
  let main_c_0 : IVec S_ 32 := constantI S_ 32 9#32
  let main_v3 : IVec S1024x14x14x30 32 := broadcastInDim S1024x14x14x30 ![] bcast_S_S1024x14x14x30 main_c_0
  let main_v4 : IVec S1024x14x14x30 1 := cmpi .eq main_v0 main_v3
  let main_v5 : IVec S1024x14x14x30 1 := ori main_v2 main_v4
  let main_cst : FVec F S_ .f32 := constant S_ .f32 0x2B8CBCCC#32
  let main_v6 : FVec F S1024x14x14x30 .f32 := broadcastInDim S1024x14x14x30 ![] bcast_S_S1024x14x14x30 main_cst
  let main_v7 : IVec S1024x14x14x30 1 := cmpf .oge main_arg0 main_v6
  let main_cst_1 : FVec F S_ .f32 := constant S_ .f32 0x3F7FFFFF#32
  let main_v8 : FVec F S1024x14x14x30 .f32 := broadcastInDim S1024x14x14x30 ![] bcast_S_S1024x14x14x30 main_cst_1
  let main_v9 : IVec S1024x14x14x30 1 := cmpf .ole main_arg0 main_v8
  let main_v10 : IVec S1024x14x14x30 1 := andi main_v7 main_v9
  let main_cst_2 : FVec F S_ .f32 := constant S_ .f32 0xFF800000#32
  let main_v11 : FVec F S1024x14x14x30 .f32 := broadcastInDim S1024x14x14x30 ![] bcast_S_S1024x14x14x30 main_cst_2
  let main_v12 : IVec S1024x14x14x30 1 := cmpf .ogt main_arg1 main_v11
  let main_cst_3 : FVec F S_ .f32 := constant S_ .f32 0x7F800000#32
  let main_v13 : FVec F S1024x14x14x30 .f32 := broadcastInDim S1024x14x14x30 ![] bcast_S_S1024x14x14x30 main_cst_3
  let main_v14 : IVec S1024x14x14x30 1 := cmpf .olt main_arg1 main_v13
  let main_v15 : IVec S1024x14x14x30 1 := andi main_v12 main_v14
  let main_v16 : IVec S1024x14x14x30 1 := andi main_v10 main_v15
  let main_c_4 : IVec S_ 32 := constantI S_ 32 10#32
  fn_part1 (F := F) main_arg0 main_arg1 main_v0 main_v5 main_v16 main_c_4
-- ==== Kernel.lean ====
abbrev S1024x14x14x30 : Shape := ⟨4, ![1024, 14, 14, 30]⟩
abbrev S14x14x30x1024 : Shape := ⟨4, ![14, 14, 30, 1024]⟩
abbrev S196x30x1024 : Shape := ⟨3, ![196, 30, 1024]⟩
abbrev S1x1 : Shape := ⟨2, ![1, 1]⟩
abbrev S196x30x256 : Shape := ⟨3, ![196, 30, 256]⟩
abbrev S196x256 : Shape := ⟨2, ![196, 256]⟩
abbrev S_ : Shape := ⟨0, ![]⟩
abbrev S196x1x256 : Shape := ⟨3, ![196, 1, 256]⟩
abbrev S1x196x256 : Shape := ⟨3, ![1, 196, 256]⟩
abbrev S1 : Shape := ⟨1, ![1]⟩
abbrev S1x1x1 : Shape := ⟨3, ![1, 1, 1]⟩

abbrev nBuf : Space → Nat
  | .hbm => 8
  | .vmem => 25
  | .smem => 0
  | _ => 0

abbrev bufTy : (tb : Table) → Fin (tcTables nBuf tb) → BufTy
  | .hbm, ⟨0, _⟩ => ⟨S1024x14x14x30, .f32⟩
  | .hbm, ⟨1, _⟩ => ⟨S1024x14x14x30, .f32⟩
  | .hbm, ⟨2, _⟩ => ⟨S14x14x30x1024, .f32⟩
  | .hbm, ⟨3, _⟩ => ⟨S196x30x1024, .f32⟩
  | .hbm, ⟨4, _⟩ => ⟨S14x14x30x1024, .f32⟩
  | .hbm, ⟨5, _⟩ => ⟨S196x30x1024, .f32⟩
  | .hbm, ⟨6, _⟩ => ⟨S1x1, .f32⟩
  | .hbm, ⟨7, _⟩ => ⟨S_, .f32⟩
  | .local _ .vmem, ⟨0, _⟩ => ⟨S196x30x256, .f32⟩
  | .local _ .vmem, ⟨1, _⟩ => ⟨S196x30x256, .f32⟩
  | .local _ .vmem, ⟨2, _⟩ => ⟨S196x30x256, .f32⟩
  | .local _ .vmem, ⟨3, _⟩ => ⟨S196x30x256, .f32⟩
  | .local _ .vmem, ⟨4, _⟩ => ⟨S1x1, .f32⟩
  | .local _ .vmem, ⟨5, _⟩ => ⟨S196x256, .f32⟩
  | .local _ .vmem, ⟨6, _⟩ => ⟨S196x256, .f32⟩
  | .local _ .vmem, ⟨7, _⟩ => ⟨S196x256, .f32⟩
  | .local _ .vmem, ⟨8, _⟩ => ⟨S196x256, .f32⟩
  | .local _ .vmem, ⟨9, _⟩ => ⟨S196x256, .f32⟩
  | .local _ .vmem, ⟨10, _⟩ => ⟨S196x256, .f32⟩
  | .local _ .vmem, ⟨11, _⟩ => ⟨S196x256, .f32⟩
  | .local _ .vmem, ⟨12, _⟩ => ⟨S196x256, .f32⟩
  | .local _ .vmem, ⟨13, _⟩ => ⟨S196x256, .f32⟩
  | .local _ .vmem, ⟨14, _⟩ => ⟨S196x256, .f32⟩
  | .local _ .vmem, ⟨15, _⟩ => ⟨S196x256, .f32⟩
  | .local _ .vmem, ⟨16, _⟩ => ⟨S196x256, .f32⟩
  | .local _ .vmem, ⟨17, _⟩ => ⟨S196x256, .f32⟩
  | .local _ .vmem, ⟨18, _⟩ => ⟨S196x256, .f32⟩
  | .local _ .vmem, ⟨19, _⟩ => ⟨S196x256, .f32⟩
  | .local _ .vmem, ⟨20, _⟩ => ⟨S196x256, .f32⟩
  | .local _ .vmem, ⟨21, _⟩ => ⟨S196x256, .f32⟩
  | .local _ .vmem, ⟨22, _⟩ => ⟨S196x256, .f32⟩
  | .local _ .vmem, ⟨23, _⟩ => ⟨S196x256, .f32⟩
  | .local _ .vmem, ⟨24, _⟩ => ⟨S196x256, .f32⟩
  | _, _ => ⟨S1024x14x14x30, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_scratch5 : Ref sig .tc := ⟨.vmem, 10, rfl⟩
abbrev cc0_scratch6 : Ref sig .tc := ⟨.vmem, 11, rfl⟩
abbrev cc0_scratch7 : Ref sig .tc := ⟨.vmem, 12, rfl⟩
abbrev cc0_scratch8 : Ref sig .tc := ⟨.vmem, 13, rfl⟩
abbrev cc0_scratch9 : Ref sig .tc := ⟨.vmem, 14, rfl⟩
abbrev cc0_scratch10 : Ref sig .tc := ⟨.vmem, 15, rfl⟩
abbrev cc0_scratch11 : Ref sig .tc := ⟨.vmem, 16, rfl⟩
abbrev cc0_scratch12 : Ref sig .tc := ⟨.vmem, 17, rfl⟩
abbrev cc0_scratch13 : Ref sig .tc := ⟨.vmem, 18, rfl⟩
abbrev cc0_scratch14 : Ref sig .tc := ⟨.vmem, 19, rfl⟩
abbrev cc0_scratch15 : Ref sig .tc := ⟨.vmem, 20, rfl⟩
abbrev cc0_scratch16 : Ref sig .tc := ⟨.vmem, 21, rfl⟩
abbrev cc0_scratch17 : Ref sig .tc := ⟨.vmem, 22, rfl⟩
abbrev cc0_scratch18 : Ref sig .tc := ⟨.vmem, 23, rfl⟩
abbrev cc0_scratch19 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![4], ![false]⟩

def k0_off1 (i : grid0.Coords) : Fin 3 → Nat :=
  let c0_i32_19 : BitVec 32 := 0#32
  let c0_i32 : BitVec 32 := 0#32
  let arg0 : BitVec 32 := BitVec.ofNat 32 (i 0).val
  let c256_i32 : BitVec 32 := 256#32
  let v0 : BitVec 32 := Scalar.muli arg0 c256_i32
  ![0, 0, v0.toNat]
def k0_off2 (i : grid0.Coords) : Fin 3 → Nat :=
  let c0_i32_22 : BitVec 32 := 0#32
  let c1_i32 : BitVec 32 := 1#32
  let arg0 : BitVec 32 := BitVec.ofNat 32 (i 0).val
  let c256_i32_1 : BitVec 32 := 256#32
  let v2 : BitVec 32 := Scalar.muli arg0 c256_i32_1
  ![0, 1, v2.toNat]
def k0_off3 (i : grid0.Coords) : Fin 3 → Nat :=
  let c0_i32_25 : BitVec 32 := 0#32
  let c2_i32 : BitVec 32 := 2#32
  let arg0 : BitVec 32 := BitVec.ofNat 32 (i 0).val
  let c256_i32_3 : BitVec 32 := 256#32
  let v4 : BitVec 32 := Scalar.muli arg0 c256_i32_3
  ![0, 2, v4.toNat]
def k0_off4 (i : grid0.Coords) : Fin 3 → Nat :=
  let c0_i32_28 : BitVec 32 := 0#32
  let c3_i32 : BitVec 32 := 3#32
  let arg0 : BitVec 32 := BitVec.ofNat 32 (i 0).val
  let c256_i32_5 : BitVec 32 := 256#32
  let v6 : BitVec 32 := Scalar.muli arg0 c256_i32_5
  ![0, 3, v6.toNat]
def k0_off5 (i : grid0.Coords) : Fin 3 → Nat :=
  let c0_i32_31 : BitVec 32 := 0#32
  let c4_i32 : BitVec 32 := 4#32
  let arg0 : BitVec 32 := BitVec.ofNat 32 (i 0).val
  let c256_i32_7 : BitVec 32 := 256#32
  let v8 : BitVec 32 := Scalar.muli arg0 c256_i32_7
  ![0, 4, v8.toNat]
def k0_off6 (i : grid0.Coords) : Fin 3 → Nat :=
  let c0_i32_34 : BitVec 32 := 0#32
  let c5_i32 : BitVec 32 := 5#32
  let arg0 : BitVec 32 := BitVec.ofNat 32 (i 0).val
  let c256_i32_9 : BitVec 32 := 256#32
  let v10 : BitVec 32 := Scalar.muli arg0 c256_i32_9
  ![0, 5, v10.toNat]
def k0_off7 (i : grid0.Coords) : Fin 3 → Nat :=
  let c0_i32_37 : BitVec 32 := 0#32
  let c6_i32 : BitVec 32 := 6#32
  let arg0 : BitVec 32 := BitVec.ofNat 32 (i 0).val
  let c256_i32_11 : BitVec 32 := 256#32
  let v12 : BitVec 32 := Scalar.muli arg0 c256_i32_11
  ![0, 6, v12.toNat]
def k0_off8 (i : grid0.Coords) : Fin 3 → Nat :=
  let c0_i32_40 : BitVec 32 := 0#32
  let c7_i32 : BitVec 32 := 7#32
  let arg0 : BitVec 32 := BitVec.ofNat 32 (i 0).val
  let c256_i32_13 : BitVec 32 := 256#32
  let v14 : BitVec 32 := Scalar.muli arg0 c256_i32_13
  ![0, 7, v14.toNat]
def k0_off9 (i : grid0.Coords) : Fin 3 → Nat :=
  let c0_i32_43 : BitVec 32 := 0#32
  let c8_i32 : BitVec 32 := 8#32
  let arg0 : BitVec 32 := BitVec.ofNat 32 (i 0).val
  let c256_i32_15 : BitVec 32 := 256#32
  let v16 : BitVec 32 := Scalar.muli arg0 c256_i32_15
  ![0, 8, v16.toNat]
def k0_off10 (i : grid0.Coords) : Fin 3 → Nat :=
  let c0_i32_46 : BitVec 32 := 0#32
  let c9_i32 : BitVec 32 := 9#32
  let arg0 : BitVec 32 := BitVec.ofNat 32 (i 0).val
  let c256_i32_17 : BitVec 32 := 256#32
  let v18 : BitVec 32 := Scalar.muli arg0 c256_i32_17
  ![0, 9, v18.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S196x30x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S196x30x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S1024x14x14x30 : Shape := ⟨4, ![1024, 14, 14, 30]⟩
abbrev S1024x14x14x10 : Shape := ⟨4, ![1024, 14, 14, 10]⟩
abbrev S1024x14x14x2x5 : Shape := ⟨5, ![1024, 14, 14, 2, 5]⟩
abbrev S1024x14x14x20 : Shape := ⟨4, ![1024, 14, 14, 20]⟩
abbrev S1024x14x14x2x1 : Shape := ⟨5, ![1024, 14, 14, 2, 1]⟩
abbrev S1024x14x14x2 : Shape := ⟨4, ![1024, 14, 14, 2]⟩
abbrev S_ : Shape := ⟨0, ![]⟩
abbrev S1024x14x14x1 : Shape := ⟨4, ![1024, 14, 14, 1]⟩
abbrev S1024x14x14 : Shape := ⟨3, ![1024, 14, 14]⟩
abbrev S14 : Shape := ⟨1, ![14]⟩
abbrev S1x1x14x1 : Shape := ⟨4, ![1, 1, 14, 1]⟩
abbrev S1x14x1x1 : Shape := ⟨4, ![1, 14, 1, 1]⟩
abbrev S1x1x1x2 : Shape := ⟨4, ![1, 1, 1, 2]⟩

abbrev nBuf : Space → Nat
  | .hbm => 460
  | .vmem => 0
  | .smem => 0
  | _ => 0

abbrev hbmTy0_0 (i : Nat) : BufTy := match i % 128 with
  | 0 => ⟨S1024x14x14x30, .f32⟩
  | 1 => ⟨S1024x14x14x30, .f32⟩
  | 2 => ⟨S1024x14x14x10, .f32⟩
  | 3 => ⟨S1024x14x14x2x5, .f32⟩
  | 4 => ⟨S1024x14x14x10, .f32⟩
  | 5 => ⟨S1024x14x14x2x5, .f32⟩
  | 6 => ⟨S1024x14x14x20, .f32⟩
  | 7 => ⟨S1024x14x14x20, .f32⟩
  | 8 => ⟨S1024x14x14x2x1, .f32⟩
  | 9 => ⟨S1024x14x14x2, .f32⟩
  | 10 => ⟨S_, .f32⟩
  | 11 => ⟨S1024x14x14x2, .f32⟩
  | 12 => ⟨S1024x14x14x2, .i1⟩
  | 13 => ⟨S1024x14x14x1, .i1⟩
  | 14 => ⟨S1024x14x14, .i1⟩
  | 15 => ⟨S14, .f32⟩
  | 16 => ⟨S1x1x14x1, .f32⟩
  | 17 => ⟨S14, .f32⟩
  | 18 => ⟨S1x14x1x1, .f32⟩
  | 19 => ⟨S1024x14x14x2x1, .f32⟩
  | 20 => ⟨S1024x14x14x2, .f32⟩
  | 21 => ⟨S1024x14x14x2x1, .f32⟩
  | 22 => ⟨S1024x14x14x2, .f32⟩
  | 23 => ⟨S1024x14x14x2x1, .f32⟩
  | 24 => ⟨S1024x14x14x2, .f32⟩
  | 25 => ⟨S1024x14x14x2x1, .f32⟩
  | 26 => ⟨S1024x14x14x2, .f32⟩
  | 27 => ⟨S1024x14x14x2, .f32⟩
  | 28 => ⟨S1024x14x14x2, .f32⟩
  | 29 => ⟨S_, .f32⟩
  | 30 => ⟨S1024x14x14x2, .f32⟩
  | 31 => ⟨S1024x14x14x2, .f32⟩
  | 32 => ⟨S1024x14x14x2, .f32⟩
  | 33 => ⟨S1024x14x14x2, .f32⟩
  | 34 => ⟨S_, .f32⟩
  | 35 => ⟨S1024x14x14x2, .f32⟩
  | 36 => ⟨S1024x14x14x2, .f32⟩
  | 37 => ⟨S_, .f32⟩
  | 38 => ⟨S1024x14x14x2, .f32⟩
  | 39 => ⟨S1024x14x14x2, .f32⟩
  | 40 => ⟨S1024x14x14x2, .f32⟩
  | 41 => ⟨S_, .f32⟩
  | 42 => ⟨S1024x14x14x2, .f32⟩
  | 43 => ⟨S1024x14x14x2, .f32⟩
  | 44 => ⟨S1024x14x14x2, .f32⟩
  | 45 => ⟨S_, .f32⟩
  | 46 => ⟨S1024x14x14x2, .f32⟩
  | 47 => ⟨S1024x14x14x2, .f32⟩
  | 48 => ⟨S1024x14x14x2, .f32⟩
  | 49 => ⟨S_, .f32⟩
  | 50 => ⟨S1024x14x14x2, .f32⟩
  | 51 => ⟨S1024x14x14x2, .f32⟩
  | 52 => ⟨S1024x14x14x2, .f32⟩
  | 53 => ⟨S1024x14x14x2x1, .f32⟩
  | 54 => ⟨S1024x14x14x2, .f32⟩
  | 55 => ⟨S1024x14x14x2x1, .f32⟩
  | 56 => ⟨S1024x14x14x2, .f32⟩
  | 57 => ⟨S1024x14x14x2x1, .f32⟩
  | 58 => ⟨S1024x14x14x2, .f32⟩
  | 59 => ⟨S1024x14x14x2x1, .f32⟩
  | 60 => ⟨S1024x14x14x2, .f32⟩
  | 61 => ⟨S1024x14x14x2, .f32⟩
  | 62 => ⟨S1024x14x14x2, .f32⟩
  | 63 => ⟨S_, .f32⟩
  | 64 => ⟨S1024x14x14x2, .f32⟩
  | 65 => ⟨S1024x14x14x2, .f32⟩
  | 66 => ⟨S1024x14x14x2, .f32⟩
  | 67 => ⟨S1024x14x14x2, .f32⟩
  | 68 => ⟨S_, .f32⟩
  | 69 => ⟨S1024x14x14x2, .f32⟩
  | 70 => ⟨S1024x14x14x2, .f32⟩
  | 71 => ⟨S_, .f32⟩
  | 72 => ⟨S1024x14x14x2, .f32⟩
  | 73 => ⟨S1024x14x14x2, .f32⟩
  | 74 => ⟨S1024x14x14x2, .f32⟩
  | 75 => ⟨S_, .f32⟩
  | 76 => ⟨S1024x14x14x2, .f32⟩
  | 77 => ⟨S1024x14x14x2, .f32⟩
  | 78 => ⟨S1024x14x14x2, .f32⟩
  | 79 => ⟨S_, .f32⟩
  | 80 => ⟨S1024x14x14x2, .f32⟩
  | 81 => ⟨S1024x14x14x2, .f32⟩
  | 82 => ⟨S1024x14x14x2, .f32⟩
  | 83 => ⟨S_, .f32⟩
  | 84 => ⟨S1024x14x14x2, .f32⟩
  | 85 => ⟨S1024x14x14x2, .f32⟩
  | 86 => ⟨S1024x14x14x2, .f32⟩
  | 87 => ⟨S1024x14x14x2, .f32⟩
  | 88 => ⟨S1024x14x14x2, .f32⟩
  | 89 => ⟨S1024x14x14x2, .f32⟩
  | 90 => ⟨S1024x14x14x2, .f32⟩
  | 91 => ⟨S1024x14x14x2, .f32⟩
  | 92 => ⟨S_, .f32⟩
  | 93 => ⟨S1024x14x14x2, .f32⟩
  | 94 => ⟨S1024x14x14x2, .f32⟩
  | 95 => ⟨S1024x14x14x2, .f32⟩
  | 96 => ⟨S_, .f32⟩
  | 97 => ⟨S1024x14x14x2, .f32⟩
  | 98 => ⟨S1024x14x14x2, .f32⟩
  | 99 => ⟨S1024x14x14x2, .f32⟩
  | 100 => ⟨S1024x14x14x2, .f32⟩
  | 101 => ⟨S1024x14x14x2, .f32⟩
  | 102 => ⟨S1024x14x14x2, .f32⟩
  | 103 => ⟨S1024x14x14x2, .f32⟩
  | 104 => ⟨S1024x14x14x2, .f32⟩
  | 105 => ⟨S1024x14x14x2, .f32⟩
  | 106 => ⟨S1024x14x14x2, .f32⟩
  | 107 => ⟨S1024x14x14x2, .f32⟩
  | 108 => ⟨S_, .f32⟩
  | 109 => ⟨S1024x14x14x2, .f32⟩
  | 110 => ⟨S1024x14x14x2, .f32⟩
  | 111 => ⟨S1024x14x14x2, .f32⟩
  | 112 => ⟨S1024x14x14x1, .f32⟩
  | 113 => ⟨S1024x14x14, .f32⟩
  | 114 => ⟨S1024x14x14x1, .f32⟩
  | 115 => ⟨S1024x14x14, .f32⟩
  | 116 => ⟨S1024x14x14, .i1⟩
  | 117 => ⟨S_, .i32⟩
  | 118 => ⟨S_, .i32⟩
  | 119 => ⟨S1024x14x14, .i32⟩
  | 120 => ⟨S1024x14x14, .i32⟩
  | 121 => ⟨S1024x14x14, .i32⟩
  | 122 => ⟨S_, .i32⟩
  | 123 => ⟨S1024x14x14, .i32⟩
  | 124 => ⟨S1024x14x14, .i32⟩
  | 125 => ⟨S1024x14x14x1, .i32⟩
  | 126 => ⟨S1x1x1x2, .i32⟩
  | 127 => ⟨S1024x14x14x1, .i32⟩
  | _ => ⟨S1024x14x14x30, .f32⟩

abbrev hbmTy0_1 (i : Nat) : BufTy := match i % 128 with
  | 0 => ⟨S1024x14x14x2, .i32⟩
  | 1 => ⟨S1024x14x14x2, .i32⟩
  | 2 => ⟨S1024x14x14x2, .i1⟩
  | 3 => ⟨S1024x14x14x1, .i1⟩
  | 4 => ⟨S1024x14x14x2, .i1⟩
  | 5 => ⟨S1024x14x14x2, .i1⟩
  | 6 => ⟨S1024x14x14x2, .i1⟩
  | 7 => ⟨S1024x14x14x2, .i1⟩
  | 8 => ⟨S1024x14x14x2, .i1⟩
  | 9 => ⟨S1024x14x14x2x1, .f32⟩
  | 10 => ⟨S1024x14x14x2, .f32⟩
  | 11 => ⟨S1024x14x14x2, .f32⟩
  | 12 => ⟨S1024x14x14x2, .f32⟩
  | 13 => ⟨S_, .f32⟩
  | 14 => ⟨S_, .f32⟩
  | 15 => ⟨S1024x14x14x2, .f32⟩
  | 16 => ⟨S1024x14x14x2, .f32⟩
  | 17 => ⟨S_, .f32⟩
  | 18 => ⟨S_, .f32⟩
  | 19 => ⟨S_, .f32⟩
  | 20 => ⟨S_, .f32⟩
  | 21 => ⟨S1024x14x14x2, .f32⟩
  | 22 => ⟨S1024x14x14x2, .f32⟩
  | 23 => ⟨S_, .f32⟩
  | 24 => ⟨S_, .f32⟩
  | 25 => ⟨S1024x14x14x2, .f32⟩
  | 26 => ⟨S_, .f32⟩
  | 27 => ⟨S1024x14x14x2, .f32⟩
  | 28 => ⟨S1024x14x14x2, .f32⟩
  | 29 => ⟨S1024x14x14x2, .f32⟩
  | 30 => ⟨S_, .f32⟩
  | 31 => ⟨S1024x14x14x2, .f32⟩
  | 32 => ⟨S1024x14x14x2, .f32⟩
  | 33 => ⟨S1024x14x14x2, .f32⟩
  | 34 => ⟨S_, .f32⟩
  | 35 => ⟨S1024x14x14x2, .f32⟩
  | 36 => ⟨S1024x14x14x2, .f32⟩
  | 37 => ⟨S1024x14x14x2, .f32⟩
  | 38 => ⟨S_, .f32⟩
  | 39 => ⟨S1024x14x14x2, .f32⟩
  | 40 => ⟨S1024x14x14x2, .f32⟩
  | 41 => ⟨S1024x14x14x2, .f32⟩
  | 42 => ⟨S1024x14x14x2, .f32⟩
  | 43 => ⟨S1024x14x14x2, .f32⟩
  | 44 => ⟨S1024x14x14x2, .f32⟩
  | 45 => ⟨S1024x14x14x2, .f32⟩
  | 46 => ⟨S1024x14x14x2, .f32⟩
  | 47 => ⟨S1024x14x14x2, .f32⟩
  | 48 => ⟨S1024x14x14x2, .f32⟩
  | 49 => ⟨S1024x14x14x2, .f32⟩
  | 50 => ⟨S1024x14x14x2, .f32⟩
  | 51 => ⟨S1024x14x14x2, .f32⟩
  | 52 => ⟨S1024x14x14x2, .f32⟩
  | 53 => ⟨S1024x14x14x2, .f32⟩
  | 54 => ⟨S1024x14x14x2, .f32⟩
  | 55 => ⟨S_, .f32⟩
  | 56 => ⟨S1024x14x14x2, .f32⟩
  | 57 => ⟨S1024x14x14x2, .f32⟩
  | 58 => ⟨S1024x14x14x2, .f32⟩
  | 59 => ⟨S_, .f32⟩
  | 60 => ⟨S1024x14x14x2, .f32⟩
  | 61 => ⟨S1024x14x14x2, .f32⟩
  | 62 => ⟨S1024x14x14x2, .f32⟩
  | 63 => ⟨S_, .f32⟩
  | 64 => ⟨S1024x14x14x2, .f32⟩
  | 65 => ⟨S1024x14x14x2, .f32⟩
  | 66 => ⟨S1024x14x14x2, .f32⟩
  | 67 => ⟨S_, .f32⟩
  | 68 => ⟨S1024x14x14x2, .f32⟩
  | 69 => ⟨S1024x14x14x2, .f32⟩
  | 70 => ⟨S1024x14x14x2, .f32⟩
  | 71 => ⟨S_, .f32⟩
  | 72 => ⟨S1024x14x14x2, .f32⟩
  | 73 => ⟨S1024x14x14x2, .f32⟩
  | 74 => ⟨S1024x14x14x2, .f32⟩
  | 75 => ⟨S_, .f32⟩
  | 76 => ⟨S1024x14x14x2, .f32⟩
  | 77 => ⟨S1024x14x14x2, .f32⟩
  | 78 => ⟨S1024x14x14x2, .f32⟩
  | 79 => ⟨S1024x14x14x2, .f32⟩
  | 80 => ⟨S1024x14x14x2, .f32⟩
  | 81 => ⟨S1024x14x14x2, .f32⟩
  | 82 => ⟨S1024x14x14x2, .f32⟩
  | 83 => ⟨S_, .f32⟩
  | 84 => ⟨S1024x14x14x2, .f32⟩
  | 85 => ⟨S1024x14x14x2, .f32⟩
  | 86 => ⟨S1024x14x14x2, .f32⟩
  | 87 => ⟨S_, .f32⟩
  | 88 => ⟨S1024x14x14x2, .f32⟩
  | 89 => ⟨S1024x14x14x2, .f32⟩
  | 90 => ⟨S1024x14x14x2, .f32⟩
  | 91 => ⟨S_, .f32⟩
  | 92 => ⟨S1024x14x14x2, .f32⟩
  | 93 => ⟨S1024x14x14x2, .f32⟩
  | 94 => ⟨S1024x14x14x2, .f32⟩
  | 95 => ⟨S_, .f32⟩
  | 96 => ⟨S1024x14x14x2, .f32⟩
  | 97 => ⟨S1024x14x14x2, .f32⟩
  | 98 => ⟨S1024x14x14x2, .f32⟩
  | 99 => ⟨S_, .f32⟩
  | 100 => ⟨S1024x14x14x2, .f32⟩
  | 101 => ⟨S1024x14x14x2, .f32⟩
  | 102 => ⟨S_, .f32⟩
  | 103 => ⟨S1024x14x14x2, .f32⟩
  | 104 => ⟨S1024x14x14x2, .f32⟩
  | 105 => ⟨S_, .f32⟩
  | 106 => ⟨S1024x14x14x2, .f32⟩
  | 107 => ⟨S1024x14x14x2, .f32⟩
  | 108 => ⟨S1024x14x14x2, .f32⟩
  | 109 => ⟨S1024x14x14x2, .f32⟩
  | 110 => ⟨S1024x14x14x2, .f32⟩
  | 111 => ⟨S1024x14x14x2, .f32⟩
  | 112 => ⟨S1024x14x14x2, .f32⟩
  | 113 => ⟨S1024x14x14x2, .f32⟩
  | 114 => ⟨S_, .f32⟩
  | 115 => ⟨S1024x14x14x2, .f32⟩
  | 116 => ⟨S1024x14x14x2, .f32⟩
  | 117 => ⟨S1024x14x14x2, .f32⟩
  | 118 => ⟨S_, .f32⟩
  | 119 => ⟨S1024x14x14x2, .f32⟩
  | 120 => ⟨S1024x14x14x2, .f32⟩
  | 121 => ⟨S1024x14x14x2, .f32⟩
  | 122 => ⟨S_, .f32⟩
  | 123 => ⟨S1024x14x14x2, .f32⟩
  | 124 => ⟨S1024x14x14x2, .f32⟩
  | 125 => ⟨S1024x14x14x2, .f32⟩
  | 126 => ⟨S_, .f32⟩
  | 127 => ⟨S1024x14x14x2, .f32⟩
  | _ => ⟨S1024x14x14x30, .f32⟩

abbrev hbmTy0_2 (i : Nat) : BufTy := match i % 128 with
  | 0 => ⟨S1024x14x14x2, .f32⟩
  | 1 => ⟨S1024x14x14x2, .f32⟩
  | 2 => ⟨S_, .f32⟩
  | 3 => ⟨S1024x14x14x2, .f32⟩
  | 4 => ⟨S1024x14x14x2, .f32⟩
  | 5 => ⟨S_, .f32⟩
  | 6 => ⟨S1024x14x14x2, .f32⟩
  | 7 => ⟨S1024x14x14x2, .i1⟩
  | 8 => ⟨S_, .f32⟩
  | 9 => ⟨S1024x14x14x2, .f32⟩
  | 10 => ⟨S1024x14x14x2, .i1⟩
  | 11 => ⟨S1024x14x14x2, .f32⟩
  | 12 => ⟨S1024x14x14x2, .f32⟩
  | 13 => ⟨S1024x14x14x2, .f32⟩
  | 14 => ⟨S1024x14x14x2, .f32⟩
  | 15 => ⟨S1024x14x14x2, .f32⟩
  | 16 => ⟨S_, .f32⟩
  | 17 => ⟨S1024x14x14x2, .f32⟩
  | 18 => ⟨S1024x14x14x2, .f32⟩
  | 19 => ⟨S1024x14x14x2, .f32⟩
  | 20 => ⟨S_, .f32⟩
  | 21 => ⟨S1024x14x14x2, .f32⟩
  | 22 => ⟨S1024x14x14x2, .f32⟩
  | 23 => ⟨S1024x14x14x2, .f32⟩
  | 24 => ⟨S_, .f32⟩
  | 25 => ⟨S1024x14x14x2, .f32⟩
  | 26 => ⟨S1024x14x14x2, .f32⟩
  | 27 => ⟨S1024x14x14x2, .f32⟩
  | 28 => ⟨S_, .f32⟩
  | 29 => ⟨S1024x14x14x2, .f32⟩
  | 30 => ⟨S1024x14x14x2, .f32⟩
  | 31 => ⟨S1024x14x14x2, .f32⟩
  | 32 => ⟨S1024x14x14x2, .f32⟩
  | 33 => ⟨S1024x14x14x2, .f32⟩
  | 34 => ⟨S1024x14x14x2, .f32⟩
  | 35 => ⟨S_, .f32⟩
  | 36 => ⟨S1024x14x14x2, .f32⟩
  | 37 => ⟨S1024x14x14x2, .f32⟩
  | 38 => ⟨S1024x14x14x2, .f32⟩
  | 39 => ⟨S1024x14x14x2, .f32⟩
  | 40 => ⟨S1024x14x14x2, .f32⟩
  | 41 => ⟨S1024x14x14x2, .f32⟩
  | 42 => ⟨S1024x14x14x2, .f32⟩
  | 43 => ⟨S_, .f32⟩
  | 44 => ⟨S1024x14x14x2, .f32⟩
  | 45 => ⟨S1024x14x14x2, .f32⟩
  | 46 => ⟨S1024x14x14x2, .f32⟩
  | 47 => ⟨S_, .f32⟩
  | 48 => ⟨S1024x14x14x2, .f32⟩
  | 49 => ⟨S1024x14x14x2, .f32⟩
  | 50 => ⟨S1024x14x14x2, .f32⟩
  | 51 => ⟨S_, .f32⟩
  | 52 => ⟨S1024x14x14x2, .f32⟩
  | 53 => ⟨S1024x14x14x2, .f32⟩
  | 54 => ⟨S1024x14x14x2, .f32⟩
  | 55 => ⟨S_, .f32⟩
  | 56 => ⟨S1024x14x14x2, .f32⟩
  | 57 => ⟨S1024x14x14x2, .f32⟩
  | 58 => ⟨S1024x14x14x2, .f32⟩
  | 59 => ⟨S_, .f32⟩
  | 60 => ⟨S1024x14x14x2, .f32⟩
  | 61 => ⟨S1024x14x14x2, .f32⟩
  | 62 => ⟨S_, .f32⟩
  | 63 => ⟨S1024x14x14x2, .f32⟩
  | 64 => ⟨S1024x14x14x2, .f32⟩
  | 65 => ⟨S_, .f32⟩
  | 66 => ⟨S1024x14x14x2, .f32⟩
  | 67 => ⟨S1024x14x14x2, .f32⟩
  | 68 => ⟨S1024x14x14x2, .f32⟩
  | 69 => ⟨S1024x14x14x2, .f32⟩
  | 70 => ⟨S1024x14x14x2, .f32⟩
  | 71 => ⟨S1024x14x14x2, .f32⟩
  | 72 => ⟨S1024x14x14x2, .f32⟩
  | 73 => ⟨S1024x14x14x2, .f32⟩
  | 74 => ⟨S_, .f32⟩
  | 75 => ⟨S1024x14x14x2, .f32⟩
  | 76 => ⟨S1024x14x14x2, .f32⟩
  | 77 => ⟨S1024x14x14x2, .f32⟩
  | 78 => ⟨S_, .f32⟩
  | 79 => ⟨S1024x14x14x2, .f32⟩
  | 80 => ⟨S1024x14x14x2, .f32⟩
  | 81 => ⟨S1024x14x14x2, .f32⟩
  | 82 => ⟨S_, .f32⟩
  | 83 => ⟨S1024x14x14x2, .f32⟩
  | 84 => ⟨S1024x14x14x2, .f32⟩
  | 85 => ⟨S1024x14x14x2, .f32⟩
  | 86 => ⟨S_, .f32⟩
  | 87 => ⟨S1024x14x14x2, .f32⟩
  | 88 => ⟨S1024x14x14x2, .f32⟩
  | 89 => ⟨S1024x14x14x2, .f32⟩
  | 90 => ⟨S_, .f32⟩
  | 91 => ⟨S1024x14x14x2, .f32⟩
  | 92 => ⟨S1024x14x14x2, .f32⟩
  | 93 => ⟨S_, .f32⟩
  | 94 => ⟨S1024x14x14x2, .f32⟩
  | 95 => ⟨S1024x14x14x2, .i1⟩
  | 96 => ⟨S_, .f32⟩
  | 97 => ⟨S1024x14x14x2, .f32⟩
  | 98 => ⟨S1024x14x14x2, .i1⟩
  | 99 => ⟨S1024x14x14x2, .f32⟩
  | 100 => ⟨S1024x14x14x2, .f32⟩
  | 101 => ⟨S1024x14x14x2, .f32⟩
  | 102 => ⟨S1024x14x14x2, .f32⟩
  | 103 => ⟨S1024x14x14x2, .f32⟩
  | 104 => ⟨S_, .f32⟩
  | 105 => ⟨S1024x14x14x2, .f32⟩
  | 106 => ⟨S1024x14x14x2, .f32⟩
  | 107 => ⟨S1024x14x14x2, .f32⟩
  | 108 => ⟨S_, .f32⟩
  | 109 => ⟨S1024x14x14x2, .f32⟩
  | 110 => ⟨S1024x14x14x2, .f32⟩
  | 111 => ⟨S1024x14x14x2, .f32⟩
  | 112 => ⟨S_, .f32⟩
  | 113 => ⟨S1024x14x14x2, .f32⟩
  | 114 => ⟨S1024x14x14x2, .f32⟩
  | 115 => ⟨S1024x14x14x2, .f32⟩
  | 116 => ⟨S_, .f32⟩
  | 117 => ⟨S1024x14x14x2, .f32⟩
  | 118 => ⟨S1024x14x14x2, .f32⟩
  | 119 => ⟨S1024x14x14x2, .f32⟩
  | 120 => ⟨S1024x14x14x2, .f32⟩
  | 121 => ⟨S1024x14x14x2, .f32⟩
  | 122 => ⟨S1024x14x14x2, .f32⟩
  | 123 => ⟨S1024x14x14x2, .f32⟩
  | 124 => ⟨S_, .f32⟩
  | 125 => ⟨S1024x14x14x2, .f32⟩
  | 126 => ⟨S1024x14x14x2, .f32⟩
  | 127 => ⟨S_, .f32⟩
  | _ => ⟨S1024x14x14x30, .f32⟩

abbrev hbmTy0_3 (i : Nat) : BufTy := match i % 128 with
  | 0 => ⟨S1024x14x14x2, .f32⟩
  | 1 => ⟨S1024x14x14x2, .f32⟩
  | 2 => ⟨S1024x14x14x2, .f32⟩
  | 3 => ⟨S_, .f32⟩
  | 4 => ⟨S1024x14x14x2, .f32⟩
  | 5 => ⟨S1024x14x14x2, .f32⟩
  | 6 => ⟨S1024x14x14x2, .f32⟩
  | 7 => ⟨S1024x14x14x2, .f32⟩
  | 8 => ⟨S1024x14x14x2, .f32⟩
  | 9 => ⟨S1024x14x14x2, .f32⟩
  | 10 => ⟨S1024x14x14x2, .f32⟩
  | 11 => ⟨S1024x14x14x2, .f32⟩
  | 12 => ⟨S_, .f32⟩
  | 13 => ⟨S1024x14x14x2, .f32⟩
  | 14 => ⟨S1024x14x14x2, .f32⟩
  | 15 => ⟨S_, .f32⟩
  | 16 => ⟨S1024x14x14x2, .f32⟩
  | 17 => ⟨S1024x14x14x2, .f32⟩
  | 18 => ⟨S_, .f32⟩
  | 19 => ⟨S1024x14x14x2, .f32⟩
  | 20 => ⟨S1024x14x14x2, .f32⟩
  | 21 => ⟨S1024x14x14x2, .f32⟩
  | 22 => ⟨S1024x14x14x1, .i1⟩
  | 23 => ⟨S1024x14x14x2, .i1⟩
  | 24 => ⟨S1024x14x14x2, .i1⟩
  | 25 => ⟨S_, .f32⟩
  | 26 => ⟨S_, .f32⟩
  | 27 => ⟨S1024x14x14x2, .f32⟩
  | 28 => ⟨S1024x14x14x2, .f32⟩
  | 29 => ⟨S_, .f32⟩
  | 30 => ⟨S_, .f32⟩
  | 31 => ⟨S_, .f32⟩
  | 32 => ⟨S_, .f32⟩
  | 33 => ⟨S_, .f32⟩
  | 34 => ⟨S1024x14x14x20, .f32⟩
  | 35 => ⟨S1024x14x14x20, .f32⟩
  | 36 => ⟨S_, .f32⟩
  | 37 => ⟨S1024x14x14x20, .f32⟩
  | 38 => ⟨S1024x14x14x20, .f32⟩
  | 39 => ⟨S1024x14x14x20, .f32⟩
  | 40 => ⟨S_, .f32⟩
  | 41 => ⟨S1024x14x14x20, .f32⟩
  | 42 => ⟨S1024x14x14x20, .f32⟩
  | 43 => ⟨S1024x14x14x20, .f32⟩
  | 44 => ⟨S_, .f32⟩
  | 45 => ⟨S1024x14x14x20, .f32⟩
  | 46 => ⟨S1024x14x14x20, .f32⟩
  | 47 => ⟨S_, .f32⟩
  | 48 => ⟨S1024x14x14x20, .f32⟩
  | 49 => ⟨S1024x14x14x20, .f32⟩
  | 50 => ⟨S1024x14x14x20, .f32⟩
  | 51 => ⟨S_, .f32⟩
  | 52 => ⟨S1024x14x14x20, .f32⟩
  | 53 => ⟨S1024x14x14x20, .f32⟩
  | 54 => ⟨S1024x14x14x20, .f32⟩
  | 55 => ⟨S1024x14x14x20, .f32⟩
  | 56 => ⟨S1024x14x14x20, .f32⟩
  | 57 => ⟨S1024x14x14x1, .i1⟩
  | 58 => ⟨S_, .f32⟩
  | 59 => ⟨S_, .f32⟩
  | 60 => ⟨S1024x14x14x20, .i1⟩
  | 61 => ⟨S1024x14x14x20, .f32⟩
  | 62 => ⟨S1024x14x14x20, .f32⟩
  | 63 => ⟨S_, .f32⟩
  | 64 => ⟨S_, .f32⟩
  | 65 => ⟨S_, .f32⟩
  | 66 => ⟨S_, .f32⟩
  | 67 => ⟨S_, .f32⟩
  | 68 => ⟨S_, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S_, .f32⟩
  | _ => ⟨S1024x14x14x30, .f32⟩

abbrev hbmTy (i : Nat) : BufTy := match i / 128 with
  | 0 => hbmTy0_0 i
  | 1 => hbmTy0_1 i
  | 2 => hbmTy0_2 i
  | 3 => hbmTy0_3 i
  | _ => ⟨S1024x14x14x30, .f32⟩

abbrev bufTy : (tb : Table) → Fin (tcTables nBuf tb) → BufTy
  | .hbm, ⟨i, _⟩ => hbmTy i
  | _, _ => ⟨S1024x14x14x30, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_cst_0 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_cst_1 : Ref sig .tc := ⟨.hbm, 34, rfl⟩
abbrev main_v30 : Ref sig .tc := ⟨.hbm, 35, rfl⟩
abbrev main_v31 : Ref sig .tc := ⟨.hbm, 36, rfl⟩
abbrev main_cst_2 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_cst_3 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_cst_4 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_cst_5 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_cst_6 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_cst_7 : Ref sig .tc := ⟨.hbm, 68, rfl⟩
abbrev main_v58 : Ref sig .tc := ⟨.hbm, 69, rfl⟩
abbrev main_v59 : Ref sig .tc := ⟨.hbm, 70, rfl⟩
abbrev main_cst_8 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_cst_9 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_cst_10 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_cst_11 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_cst_12 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_cst_13 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_cst_14 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_c : Ref sig .tc := ⟨.hbm, 117, rfl⟩
abbrev main_c_15 : Ref sig .tc := ⟨.hbm, 118, rfl⟩
abbrev main_call0_v0 : Ref sig .tc := ⟨.hbm, 119, rfl⟩
abbrev main_call0_v1 : Ref sig .tc := ⟨.hbm, 120, rfl⟩
abbrev main_v99 : Ref sig .tc := ⟨.hbm, 121, rfl⟩
abbrev main_c_16 : Ref sig .tc := ⟨.hbm, 122, rfl⟩
abbrev main_v100 : Ref sig .tc := ⟨.hbm, 123, rfl⟩
abbrev main_v101 : Ref sig .tc := ⟨.hbm, 124, rfl⟩
abbrev main_call1_v0 : Ref sig .tc := ⟨.hbm, 125, rfl⟩
abbrev main_call1_v1 : Ref sig .tc := ⟨.hbm, 126, rfl⟩
abbrev main_call1_v2 : Ref sig .tc := ⟨.hbm, 127, rfl⟩
abbrev main_call1_v3 : Ref sig .tc := ⟨.hbm, 128, rfl⟩
abbrev main_call1_v4 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_cst_17 : Ref sig .tc := ⟨.hbm, 141, rfl⟩
abbrev main_call2_v0 : Ref sig .tc := ⟨.hbm, 142, rfl⟩
abbrev main_call2_v1 : Ref sig .tc := ⟨.hbm, 143, rfl⟩
abbrev main_v113 : Ref sig .tc := ⟨.hbm, 144, rfl⟩
abbrev main_cst_18 : Ref sig .tc := ⟨.hbm, 145, rfl⟩
abbrev main_v114 : Ref sig .tc := ⟨.hbm, 146, rfl⟩
abbrev main_cst_19 : Ref sig .tc := ⟨.hbm, 147, rfl⟩
abbrev main_call3_v0 : Ref sig .tc := ⟨.hbm, 148, rfl⟩
abbrev main_call3_v1 : Ref sig .tc := ⟨.hbm, 149, rfl⟩
abbrev main_v115 : Ref sig .tc := ⟨.hbm, 150, rfl⟩
abbrev main_cst_20 : Ref sig .tc := ⟨.hbm, 151, rfl⟩
abbrev main_v116 : Ref sig .tc := ⟨.hbm, 152, rfl⟩
abbrev main_v117 : Ref sig .tc := ⟨.hbm, 153, rfl⟩
abbrev main_cst_21 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_cst_22 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_cst_23 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_cst_24 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_cst_25 : Ref sig .tc := ⟨.hbm, 183, rfl⟩
abbrev main_v143 : Ref sig .tc := ⟨.hbm, 184, rfl⟩
abbrev main_v144 : Ref sig .tc := ⟨.hbm, 185, rfl⟩
abbrev main_v145 : Ref sig .tc := ⟨.hbm, 186, rfl⟩
abbrev main_cst_26 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩
abbrev main_cst_27 : Ref sig .tc := ⟨.hbm, 191, rfl⟩
abbrev main_v149 : Ref sig .tc := ⟨.hbm, 192, rfl⟩
abbrev main_v150 : Ref sig .tc := ⟨.hbm, 193, rfl⟩
abbrev main_v151 : Ref sig .tc := ⟨.hbm, 194, rfl⟩
abbrev main_cst_28 : Ref sig .tc := ⟨.hbm, 195, rfl⟩
abbrev main_v152 : Ref sig .tc := ⟨.hbm, 196, rfl⟩
abbrev main_v153 : Ref sig .tc := ⟨.hbm, 197, rfl⟩
abbrev main_v154 : Ref sig .tc := ⟨.hbm, 198, rfl⟩
abbrev main_cst_29 : Ref sig .tc := ⟨.hbm, 199, rfl⟩
abbrev main_v155 : Ref sig .tc := ⟨.hbm, 200, rfl⟩
abbrev main_v156 : Ref sig .tc := ⟨.hbm, 201, rfl⟩
abbrev main_v157 : Ref sig .tc := ⟨.hbm, 202, rfl⟩
abbrev main_cst_30 : Ref sig .tc := ⟨.hbm, 203, rfl⟩
abbrev main_v158 : Ref sig .tc := ⟨.hbm, 204, rfl⟩
abbrev main_v159 : Ref sig .tc := ⟨.hbm, 205, rfl⟩
abbrev main_v160 : Ref sig .tc := ⟨.hbm, 206, rfl⟩
abbrev main_v161 : Ref sig .tc := ⟨.hbm, 207, rfl⟩
abbrev main_v162 : Ref sig .tc := ⟨.hbm, 208, rfl⟩
abbrev main_v163 : Ref sig .tc := ⟨.hbm, 209, rfl⟩
abbrev main_v164 : Ref sig .tc := ⟨.hbm, 210, rfl⟩
abbrev main_cst_31 : Ref sig .tc := ⟨.hbm, 211, rfl⟩
abbrev main_v165 : Ref sig .tc := ⟨.hbm, 212, rfl⟩
abbrev main_v166 : Ref sig .tc := ⟨.hbm, 213, rfl⟩
abbrev main_v167 : Ref sig .tc := ⟨.hbm, 214, rfl⟩
abbrev main_cst_32 : Ref sig .tc := ⟨.hbm, 215, rfl⟩
abbrev main_v168 : Ref sig .tc := ⟨.hbm, 216, rfl⟩
abbrev main_v169 : Ref sig .tc := ⟨.hbm, 217, rfl⟩
abbrev main_v170 : Ref sig .tc := ⟨.hbm, 218, rfl⟩
abbrev main_cst_33 : Ref sig .tc := ⟨.hbm, 219, rfl⟩
abbrev main_v171 : Ref sig .tc := ⟨.hbm, 220, rfl⟩
abbrev main_v172 : Ref sig .tc := ⟨.hbm, 221, rfl⟩
abbrev main_v173 : Ref sig .tc := ⟨.hbm, 222, rfl⟩
abbrev main_cst_34 : Ref sig .tc := ⟨.hbm, 223, rfl⟩
abbrev main_v174 : Ref sig .tc := ⟨.hbm, 224, rfl⟩
abbrev main_v175 : Ref sig .tc := ⟨.hbm, 225, rfl⟩
abbrev main_v176 : Ref sig .tc := ⟨.hbm, 226, rfl⟩
abbrev main_cst_35 : Ref sig .tc := ⟨.hbm, 227, rfl⟩
abbrev main_v177 : Ref sig .tc := ⟨.hbm, 228, rfl⟩
abbrev main_v178 : Ref sig .tc := ⟨.hbm, 229, rfl⟩
abbrev main_cst_36 : Ref sig .tc := ⟨.hbm, 230, rfl⟩
abbrev main_v179 : Ref sig .tc := ⟨.hbm, 231, rfl⟩
abbrev main_v180 : Ref sig .tc := ⟨.hbm, 232, rfl⟩
abbrev main_cst_37 : Ref sig .tc := ⟨.hbm, 233, rfl⟩
abbrev main_v181 : Ref sig .tc := ⟨.hbm, 234, rfl⟩
abbrev main_v182 : Ref sig .tc := ⟨.hbm, 235, rfl⟩
abbrev main_v183 : Ref sig .tc := ⟨.hbm, 236, rfl⟩
abbrev main_v184 : Ref sig .tc := ⟨.hbm, 237, rfl⟩
abbrev main_v185 : Ref sig .tc := ⟨.hbm, 238, rfl⟩
abbrev main_v186 : Ref sig .tc := ⟨.hbm, 239, rfl⟩
abbrev main_v187 : Ref sig .tc := ⟨.hbm, 240, rfl⟩
abbrev main_v188 : Ref sig .tc := ⟨.hbm, 241, rfl⟩
abbrev main_cst_38 : Ref sig .tc := ⟨.hbm, 242, rfl⟩
abbrev main_v189 : Ref sig .tc := ⟨.hbm, 243, rfl⟩
abbrev main_v190 : Ref sig .tc := ⟨.hbm, 244, rfl⟩
abbrev main_v191 : Ref sig .tc := ⟨.hbm, 245, rfl⟩
abbrev main_cst_39 : Ref sig .tc := ⟨.hbm, 246, rfl⟩
abbrev main_v192 : Ref sig .tc := ⟨.hbm, 247, rfl⟩
abbrev main_v193 : Ref sig .tc := ⟨.hbm, 248, rfl⟩
abbrev main_v194 : Ref sig .tc := ⟨.hbm, 249, rfl⟩
abbrev main_cst_40 : Ref sig .tc := ⟨.hbm, 250, rfl⟩
abbrev main_v195 : Ref sig .tc := ⟨.hbm, 251, rfl⟩
abbrev main_v196 : Ref sig .tc := ⟨.hbm, 252, rfl⟩
abbrev main_v197 : Ref sig .tc := ⟨.hbm, 253, rfl⟩
abbrev main_cst_41 : Ref sig .tc := ⟨.hbm, 254, rfl⟩
abbrev main_v198 : Ref sig .tc := ⟨.hbm, 255, rfl⟩
abbrev main_v199 : Ref sig .tc := ⟨.hbm, 256, rfl⟩
abbrev main_v200 : Ref sig .tc := ⟨.hbm, 257, rfl⟩
abbrev main_cst_42 : Ref sig .tc := ⟨.hbm, 258, rfl⟩
abbrev main_v201 : Ref sig .tc := ⟨.hbm, 259, rfl⟩
abbrev main_v202 : Ref sig .tc := ⟨.hbm, 260, rfl⟩
abbrev main_cst_43 : Ref sig .tc := ⟨.hbm, 261, rfl⟩
abbrev main_v203 : Ref sig .tc := ⟨.hbm, 262, rfl⟩
abbrev main_v204 : Ref sig .tc := ⟨.hbm, 263, rfl⟩
abbrev main_cst_44 : Ref sig .tc := ⟨.hbm, 264, rfl⟩
abbrev main_v205 : Ref sig .tc := ⟨.hbm, 265, rfl⟩
abbrev main_v206 : Ref sig .tc := ⟨.hbm, 266, rfl⟩
abbrev main_v207 : Ref sig .tc := ⟨.hbm, 267, rfl⟩
abbrev main_v208 : Ref sig .tc := ⟨.hbm, 268, rfl⟩
abbrev main_v209 : Ref sig .tc := ⟨.hbm, 269, rfl⟩
abbrev main_v210 : Ref sig .tc := ⟨.hbm, 270, rfl⟩
abbrev main_v211 : Ref sig .tc := ⟨.hbm, 271, rfl⟩
abbrev main_cst_45 : Ref sig .tc := ⟨.hbm, 272, rfl⟩
abbrev main_v212 : Ref sig .tc := ⟨.hbm, 273, rfl⟩
abbrev main_v213 : Ref sig .tc := ⟨.hbm, 274, rfl⟩
abbrev main_v214 : Ref sig .tc := ⟨.hbm, 275, rfl⟩
abbrev main_cst_46 : Ref sig .tc := ⟨.hbm, 276, rfl⟩
abbrev main_v215 : Ref sig .tc := ⟨.hbm, 277, rfl⟩
abbrev main_v216 : Ref sig .tc := ⟨.hbm, 278, rfl⟩
abbrev main_v217 : Ref sig .tc := ⟨.hbm, 279, rfl⟩
abbrev main_cst_47 : Ref sig .tc := ⟨.hbm, 280, rfl⟩
abbrev main_v218 : Ref sig .tc := ⟨.hbm, 281, rfl⟩
abbrev main_v219 : Ref sig .tc := ⟨.hbm, 282, rfl⟩
abbrev main_v220 : Ref sig .tc := ⟨.hbm, 283, rfl⟩
abbrev main_cst_48 : Ref sig .tc := ⟨.hbm, 284, rfl⟩
abbrev main_v221 : Ref sig .tc := ⟨.hbm, 285, rfl⟩
abbrev main_v222 : Ref sig .tc := ⟨.hbm, 286, rfl⟩
abbrev main_v223 : Ref sig .tc := ⟨.hbm, 287, rfl⟩
abbrev main_v224 : Ref sig .tc := ⟨.hbm, 288, rfl⟩
abbrev main_v225 : Ref sig .tc := ⟨.hbm, 289, rfl⟩
abbrev main_v226 : Ref sig .tc := ⟨.hbm, 290, rfl⟩
abbrev main_cst_49 : Ref sig .tc := ⟨.hbm, 291, rfl⟩
abbrev main_v227 : Ref sig .tc := ⟨.hbm, 292, rfl⟩
abbrev main_v228 : Ref sig .tc := ⟨.hbm, 293, rfl⟩
abbrev main_v229 : Ref sig .tc := ⟨.hbm, 294, rfl⟩
abbrev main_v230 : Ref sig .tc := ⟨.hbm, 295, rfl⟩
abbrev main_v231 : Ref sig .tc := ⟨.hbm, 296, rfl⟩
abbrev main_v232 : Ref sig .tc := ⟨.hbm, 297, rfl⟩
abbrev main_v233 : Ref sig .tc := ⟨.hbm, 298, rfl⟩
abbrev main_cst_50 : Ref sig .tc := ⟨.hbm, 299, rfl⟩
abbrev main_v234 : Ref sig .tc := ⟨.hbm, 300, rfl⟩
abbrev main_v235 : Ref sig .tc := ⟨.hbm, 301, rfl⟩
abbrev main_v236 : Ref sig .tc := ⟨.hbm, 302, rfl⟩
abbrev main_cst_51 : Ref sig .tc := ⟨.hbm, 303, rfl⟩
abbrev main_v237 : Ref sig .tc := ⟨.hbm, 304, rfl⟩
abbrev main_v238 : Ref sig .tc := ⟨.hbm, 305, rfl⟩
abbrev main_v239 : Ref sig .tc := ⟨.hbm, 306, rfl⟩
abbrev main_cst_52 : Ref sig .tc := ⟨.hbm, 307, rfl⟩
abbrev main_v240 : Ref sig .tc := ⟨.hbm, 308, rfl⟩
abbrev main_v241 : Ref sig .tc := ⟨.hbm, 309, rfl⟩
abbrev main_v242 : Ref sig .tc := ⟨.hbm, 310, rfl⟩
abbrev main_cst_53 : Ref sig .tc := ⟨.hbm, 311, rfl⟩
abbrev main_v243 : Ref sig .tc := ⟨.hbm, 312, rfl⟩
abbrev main_v244 : Ref sig .tc := ⟨.hbm, 313, rfl⟩
abbrev main_v245 : Ref sig .tc := ⟨.hbm, 314, rfl⟩
abbrev main_cst_54 : Ref sig .tc := ⟨.hbm, 315, rfl⟩
abbrev main_v246 : Ref sig .tc := ⟨.hbm, 316, rfl⟩
abbrev main_v247 : Ref sig .tc := ⟨.hbm, 317, rfl⟩
abbrev main_cst_55 : Ref sig .tc := ⟨.hbm, 318, rfl⟩
abbrev main_v248 : Ref sig .tc := ⟨.hbm, 319, rfl⟩
abbrev main_v249 : Ref sig .tc := ⟨.hbm, 320, rfl⟩
abbrev main_cst_56 : Ref sig .tc := ⟨.hbm, 321, rfl⟩
abbrev main_v250 : Ref sig .tc := ⟨.hbm, 322, rfl⟩
abbrev main_v251 : Ref sig .tc := ⟨.hbm, 323, rfl⟩
abbrev main_v252 : Ref sig .tc := ⟨.hbm, 324, rfl⟩
abbrev main_v253 : Ref sig .tc := ⟨.hbm, 325, rfl⟩
abbrev main_v254 : Ref sig .tc := ⟨.hbm, 326, rfl⟩
abbrev main_v255 : Ref sig .tc := ⟨.hbm, 327, rfl⟩
abbrev main_v256 : Ref sig .tc := ⟨.hbm, 328, rfl⟩
abbrev main_v257 : Ref sig .tc := ⟨.hbm, 329, rfl⟩
abbrev main_cst_57 : Ref sig .tc := ⟨.hbm, 330, rfl⟩
abbrev main_v258 : Ref sig .tc := ⟨.hbm, 331, rfl⟩
abbrev main_v259 : Ref sig .tc := ⟨.hbm, 332, rfl⟩
abbrev main_v260 : Ref sig .tc := ⟨.hbm, 333, rfl⟩
abbrev main_cst_58 : Ref sig .tc := ⟨.hbm, 334, rfl⟩
abbrev main_v261 : Ref sig .tc := ⟨.hbm, 335, rfl⟩
abbrev main_v262 : Ref sig .tc := ⟨.hbm, 336, rfl⟩
abbrev main_v263 : Ref sig .tc := ⟨.hbm, 337, rfl⟩
abbrev main_cst_59 : Ref sig .tc := ⟨.hbm, 338, rfl⟩
abbrev main_v264 : Ref sig .tc := ⟨.hbm, 339, rfl⟩
abbrev main_v265 : Ref sig .tc := ⟨.hbm, 340, rfl⟩
abbrev main_v266 : Ref sig .tc := ⟨.hbm, 341, rfl⟩
abbrev main_cst_60 : Ref sig .tc := ⟨.hbm, 342, rfl⟩
abbrev main_v267 : Ref sig .tc := ⟨.hbm, 343, rfl⟩
abbrev main_v268 : Ref sig .tc := ⟨.hbm, 344, rfl⟩
abbrev main_v269 : Ref sig .tc := ⟨.hbm, 345, rfl⟩
abbrev main_cst_61 : Ref sig .tc := ⟨.hbm, 346, rfl⟩
abbrev main_v270 : Ref sig .tc := ⟨.hbm, 347, rfl⟩
abbrev main_v271 : Ref sig .tc := ⟨.hbm, 348, rfl⟩
abbrev main_cst_62 : Ref sig .tc := ⟨.hbm, 349, rfl⟩
abbrev main_v272 : Ref sig .tc := ⟨.hbm, 350, rfl⟩
abbrev main_v273 : Ref sig .tc := ⟨.hbm, 351, rfl⟩
abbrev main_cst_63 : Ref sig .tc := ⟨.hbm, 352, rfl⟩
abbrev main_v274 : Ref sig .tc := ⟨.hbm, 353, rfl⟩
abbrev main_v275 : Ref sig .tc := ⟨.hbm, 354, rfl⟩
abbrev main_v276 : Ref sig .tc := ⟨.hbm, 355, rfl⟩
abbrev main_v277 : Ref sig .tc := ⟨.hbm, 356, rfl⟩
abbrev main_v278 : Ref sig .tc := ⟨.hbm, 357, rfl⟩
abbrev main_v279 : Ref sig .tc := ⟨.hbm, 358, rfl⟩
abbrev main_v280 : Ref sig .tc := ⟨.hbm, 359, rfl⟩
abbrev main_cst_64 : Ref sig .tc := ⟨.hbm, 360, rfl⟩
abbrev main_v281 : Ref sig .tc := ⟨.hbm, 361, rfl⟩
abbrev main_v282 : Ref sig .tc := ⟨.hbm, 362, rfl⟩
abbrev main_v283 : Ref sig .tc := ⟨.hbm, 363, rfl⟩
abbrev main_cst_65 : Ref sig .tc := ⟨.hbm, 364, rfl⟩
abbrev main_v284 : Ref sig .tc := ⟨.hbm, 365, rfl⟩
abbrev main_v285 : Ref sig .tc := ⟨.hbm, 366, rfl⟩
abbrev main_v286 : Ref sig .tc := ⟨.hbm, 367, rfl⟩
abbrev main_cst_66 : Ref sig .tc := ⟨.hbm, 368, rfl⟩
abbrev main_v287 : Ref sig .tc := ⟨.hbm, 369, rfl⟩
abbrev main_v288 : Ref sig .tc := ⟨.hbm, 370, rfl⟩
abbrev main_v289 : Ref sig .tc := ⟨.hbm, 371, rfl⟩
abbrev main_cst_67 : Ref sig .tc := ⟨.hbm, 372, rfl⟩
abbrev main_v290 : Ref sig .tc := ⟨.hbm, 373, rfl⟩
abbrev main_v291 : Ref sig .tc := ⟨.hbm, 374, rfl⟩
abbrev main_v292 : Ref sig .tc := ⟨.hbm, 375, rfl⟩
abbrev main_v293 : Ref sig .tc := ⟨.hbm, 376, rfl⟩
abbrev main_v294 : Ref sig .tc := ⟨.hbm, 377, rfl⟩
abbrev main_v295 : Ref sig .tc := ⟨.hbm, 378, rfl⟩
abbrev main_v296 : Ref sig .tc := ⟨.hbm, 379, rfl⟩
abbrev main_cst_68 : Ref sig .tc := ⟨.hbm, 380, rfl⟩
abbrev main_v297 : Ref sig .tc := ⟨.hbm, 381, rfl⟩
abbrev main_v298 : Ref sig .tc := ⟨.hbm, 382, rfl⟩
abbrev main_cst_69 : Ref sig .tc := ⟨.hbm, 383, rfl⟩
abbrev main_v299 : Ref sig .tc := ⟨.hbm, 384, rfl⟩
abbrev main_v300 : Ref sig .tc := ⟨.hbm, 385, rfl⟩
abbrev main_v301 : Ref sig .tc := ⟨.hbm, 386, rfl⟩
abbrev main_cst_70 : Ref sig .tc := ⟨.hbm, 387, rfl⟩
abbrev main_v302 : Ref sig .tc := ⟨.hbm, 388, rfl⟩
abbrev main_v303 : Ref sig .tc := ⟨.hbm, 389, rfl⟩
abbrev main_v304 : Ref sig .tc := ⟨.hbm, 390, rfl⟩
abbrev main_v305 : Ref sig .tc := ⟨.hbm, 391, rfl⟩
abbrev main_v306 : Ref sig .tc := ⟨.hbm, 392, rfl⟩
abbrev main_v307 : Ref sig .tc := ⟨.hbm, 393, rfl⟩
abbrev main_v308 : Ref sig .tc := ⟨.hbm, 394, rfl⟩
abbrev main_v309 : Ref sig .tc := ⟨.hbm, 395, rfl⟩
abbrev main_cst_71 : Ref sig .tc := ⟨.hbm, 396, rfl⟩
abbrev main_v310 : Ref sig .tc := ⟨.hbm, 397, rfl⟩
abbrev main_v311 : Ref sig .tc := ⟨.hbm, 398, rfl⟩
abbrev main_cst_72 : Ref sig .tc := ⟨.hbm, 399, rfl⟩
abbrev main_v312 : Ref sig .tc := ⟨.hbm, 400, rfl⟩
abbrev main_v313 : Ref sig .tc := ⟨.hbm, 401, rfl⟩
abbrev main_cst_73 : Ref sig .tc := ⟨.hbm, 402, rfl⟩
abbrev main_v314 : Ref sig .tc := ⟨.hbm, 403, rfl⟩
abbrev main_v315 : Ref sig .tc := ⟨.hbm, 404, rfl⟩
abbrev main_v316 : Ref sig .tc := ⟨.hbm, 405, rfl⟩
abbrev main_v317 : Ref sig .tc := ⟨.hbm, 406, rfl⟩
abbrev main_v318 : Ref sig .tc := ⟨.hbm, 407, rfl⟩
abbrev main_v319 : Ref sig .tc := ⟨.hbm, 408, rfl⟩
abbrev main_cst_74 : Ref sig .tc := ⟨.hbm, 409, rfl⟩
abbrev main_call8_v0 : Ref sig .tc := ⟨.hbm, 410, rfl⟩
abbrev main_call8_v1 : Ref sig .tc := ⟨.hbm, 411, rfl⟩
abbrev main_v320 : Ref sig .tc := ⟨.hbm, 412, rfl⟩
abbrev main_cst_75 : Ref sig .tc := ⟨.hbm, 413, rfl⟩
abbrev main_v321 : Ref sig .tc := ⟨.hbm, 414, rfl⟩
abbrev main_cst_76 : Ref sig .tc := ⟨.hbm, 415, rfl⟩
abbrev main_cst_77 : Ref sig .tc := ⟨.hbm, 416, rfl⟩
abbrev main_call9_v0 : Ref sig .tc := ⟨.hbm, 417, rfl⟩
abbrev main_call9_v1 : Ref sig .tc := ⟨.hbm, 418, rfl⟩
abbrev main_call9_v2 : Ref sig .tc := ⟨.hbm, 419, rfl⟩
abbrev main_call9_v3 : Ref sig .tc := ⟨.hbm, 420, rfl⟩
abbrev main_call9_v4 : Ref sig .tc := ⟨.hbm, 421, rfl⟩
abbrev main_v322 : Ref sig .tc := ⟨.hbm, 422, rfl⟩
abbrev main_v323 : Ref sig .tc := ⟨.hbm, 423, rfl⟩
abbrev main_cst_78 : Ref sig .tc := ⟨.hbm, 424, rfl⟩
abbrev main_v324 : Ref sig .tc := ⟨.hbm, 425, rfl⟩
abbrev main_v325 : Ref sig .tc := ⟨.hbm, 426, rfl⟩
abbrev main_v326 : Ref sig .tc := ⟨.hbm, 427, rfl⟩
abbrev main_cst_79 : Ref sig .tc := ⟨.hbm, 428, rfl⟩
abbrev main_v327 : Ref sig .tc := ⟨.hbm, 429, rfl⟩
abbrev main_v328 : Ref sig .tc := ⟨.hbm, 430, rfl⟩
abbrev main_cst_80 : Ref sig .tc := ⟨.hbm, 431, rfl⟩
abbrev main_v329 : Ref sig .tc := ⟨.hbm, 432, rfl⟩
abbrev main_v330 : Ref sig .tc := ⟨.hbm, 433, rfl⟩
abbrev main_v331 : Ref sig .tc := ⟨.hbm, 434, rfl⟩
abbrev main_cst_81 : Ref sig .tc := ⟨.hbm, 435, rfl⟩
abbrev main_v332 : Ref sig .tc := ⟨.hbm, 436, rfl⟩
abbrev main_v333 : Ref sig .tc := ⟨.hbm, 437, rfl⟩
abbrev main_v334 : Ref sig .tc := ⟨.hbm, 438, rfl⟩
abbrev main_v335 : Ref sig .tc := ⟨.hbm, 439, rfl⟩
abbrev main_v336 : Ref sig .tc := ⟨.hbm, 440, rfl⟩
abbrev main_v337 : Ref sig .tc := ⟨.hbm, 441, rfl⟩
abbrev main_cst_82 : Ref sig .tc := ⟨.hbm, 442, rfl⟩
abbrev main_call10_v0 : Ref sig .tc := ⟨.hbm, 443, rfl⟩
abbrev main_call10_v1 : Ref sig .tc := ⟨.hbm, 444, rfl⟩
abbrev main_call10_v2 : Ref sig .tc := ⟨.hbm, 445, rfl⟩
abbrev main_v338 : Ref sig .tc := ⟨.hbm, 446, rfl⟩
abbrev main_cst_83 : Ref sig .tc := ⟨.hbm, 447, rfl⟩
abbrev main_v339 : Ref sig .tc := ⟨.hbm, 448, rfl⟩
abbrev main_cst_84 : Ref sig .tc := ⟨.hbm, 449, rfl⟩
abbrev main_v340 : Ref sig .tc := ⟨.hbm, 450, rfl⟩
abbrev main_cst_85 : Ref sig .tc := ⟨.hbm, 451, rfl⟩
abbrev main_v341 : Ref sig .tc := ⟨.hbm, 452, rfl⟩
abbrev main_v342 : Ref sig .tc := ⟨.hbm, 453, rfl⟩
abbrev main_cst_86 : Ref sig .tc := ⟨.hbm, 454, rfl⟩
abbrev main_v343 : Ref sig .tc := ⟨.hbm, 455, rfl⟩
abbrev main_v344 : Ref sig .tc := ⟨.hbm, 456, rfl⟩
abbrev main_v345 : Ref sig .tc := ⟨.hbm, 457, rfl⟩
abbrev main_cst_87 : Ref sig .tc := ⟨.hbm, 458, rfl⟩
abbrev main_v346 : Ref sig .tc := ⟨.hbm, 459, rfl⟩

abbrev nD : Nat := 1
abbrev τ : Topo := Topo.v7x

variable {F : FTy → Type} [FloatOps F]
-- ==== Proof.BodyIdeal.lean ====
/-
  The kernel body run once, at a symbolic grid point.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Batch
public import Idealize.ShloMosaic.Lib.Tactic
public import Idealize.ShloMosaic.Lib.Pipeline.Frame
public import Idealize.ShloMosaic.Lib.Pipeline.Kit

@[expose] public section

set_option maxRecDepth 16384

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- The contents of a reference's buffer on core `c`. -/
abbrev Bf (c : Dev nD) (b : Ref sig .tc) : Type := Buf (Elt F) ((c : Thread nD τ).loc b)

/-- Ten read tokens of an array held at share `q`: one for each of the kernel's copies out of it. -/
abbrev toks (c : Dev nD) (b : Ref sig .tc) (q : PosShare TreeShare) (f : Bf (F := F) c b) : sProp 𝕄 :=
  bigSep Finset.univ (fun i : Fin 10 => (Memref.whole b).view.loc (c : Thread nD τ) ↦{Transfers.shareTok q 10 i} f)

/-- A reference's buffer held whole at contents `f`, as the kernel's memref names it. -/
def heldAt (c : Dev nD) (b : Ref sig .tc) (f : Buf (Elt F) ((Memref.whole b).view.loc (c : Thread nD τ))) : sProp 𝕄 :=
  iprop((Memref.whole b).view.loc (c : Thread nD τ) ↦{fullShare} f)

/-- A reference's buffer whole at some contents, as the kernel's memref names it. -/
abbrev some_ (c : Dev nD) (b : Ref sig .tc) : sProp 𝕄 :=
  iprop(∃ f : Buf (Elt F) ((Memref.whole b).view.loc (c : Thread nD τ)), (Memref.whole b).view.loc (c : Thread nD τ) ↦{fullShare} f)

/-- The scratch buffers, each whole at some contents. -/
theorem scratch_eq (c : Dev nD) :
    (Pipeline.scopedRest (Ix := Unit) (Name := ℕ) (U := Pipeline.UD sig nD τ) (Lvl := ℕ) (Val := Elt F) spec0 c : sProp 𝕄)
      = iprop(some_ c cc0_scratch0 ∗ some_ c cc0_scratch1 ∗ some_ c cc0_scratch2 ∗ some_ c cc0_scratch3 ∗ some_ c cc0_scratch4 ∗ some_ c cc0_scratch5 ∗ some_ c cc0_scratch6 ∗ some_ c cc0_scratch7 ∗ some_ c cc0_scratch8 ∗ some_ c cc0_scratch9 ∗ some_ c cc0_scratch10 ∗ some_ c cc0_scratch11 ∗ some_ c cc0_scratch12 ∗ some_ c cc0_scratch13 ∗ some_ c cc0_scratch14 ∗ some_ c cc0_scratch15 ∗ some_ c cc0_scratch16 ∗ some_ c cc0_scratch17 ∗ some_ c cc0_scratch18 ∗ some_ c cc0_scratch19) :=
  scopedRest0_eq c

/-- Ten resources held together, written one by one. -/
theorem bigSep_ten {M : Type} [URA M] (Φ : Fin 10 → sProp M) : bigSep Finset.univ Φ
    = iprop(Φ 0 ∗ Φ 1 ∗ Φ 2 ∗ Φ 3 ∗ Φ 4 ∗ Φ 5 ∗ Φ 6 ∗ Φ 7 ∗ Φ 8 ∗ Φ 9) :=
  bigSep_univ_eq_bigSepL [(0 : Fin 10), 1, 2, 3, 4, 5, 6, 7, 8, 9] (by decide) (by decide) Φ

set_option maxHeartbeats 4000000 in
/-- The body at one grid point: from the two staged blocks, the result cell, the scratch buffers and the arrays it copies from, it runs and leaves the result cell at the value it computes. -/
noncomputable def kernelRun (c : Dev nD) (i : grid0.Coords)
    (arg1 : Memref sig .tc .vmem S196x30x256 .f32) (harg1 : arg1.IsWhole)
    (arg2 : Memref sig .tc .vmem S196x30x256 .f32) (harg2 : arg2.IsWhole)
    (arg5 : Memref sig .tc .vmem S1x1 .f32) (harg5 : arg5.IsWhole)
    (f1 : Buf (Elt F) (arg1.view.loc (c : Thread nD τ))) (f2 : Buf (Elt F) (arg2.view.loc (c : Thread nD τ)))
    (f5 : Buf (Elt F) (arg5.view.loc (c : Thread nD τ)))
    (q : PosShare TreeShare) (fp : Bf (F := F) c main_v1) (ft : Bf (F := F) c main_v3)
    (g0 : Buf (Elt F) ((Memref.whole cc0_scratch0).view.loc (c : Thread nD τ)))
    (g1 : Buf (Elt F) ((Memref.whole cc0_scratch1).view.loc (c : Thread nD τ)))
    (g2 : Buf (Elt F) ((Memref.whole cc0_scratch2).view.loc (c : Thread nD τ)))
    (g3 : Buf (Elt F) ((Memref.whole cc0_scratch3).view.loc (c : Thread nD τ)))
    (g4 : Buf (Elt F) ((Memref.whole cc0_scratch4).view.loc (c : Thread nD τ)))
    (g5 : Buf (Elt F) ((Memref.whole cc0_scratch5).view.loc (c : Thread nD τ)))
    (g6 : Buf (Elt F) ((Memref.whole cc0_scratch6).view.loc (c : Thread nD τ)))
    (g7 : Buf (Elt F) ((Memref.whole cc0_scratch7).view.loc (c : Thread nD τ)))
    (g8 : Buf (Elt F) ((Memref.whole cc0_scratch8).view.loc (c : Thread nD τ)))
    (g9 : Buf (Elt F) ((Memref.whole cc0_scratch9).view.loc (c : Thread nD τ)))
    (g10 : Buf (Elt F) ((Memref.whole cc0_scratch10).view.loc (c : Thread nD τ)))
    (g11 : Buf (Elt F) ((Memref.whole cc0_scratch11).view.loc (c : Thread nD τ)))
    (g12 : Buf (Elt F) ((Memref.whole cc0_scratch12).view.loc (c : Thread nD τ)))
    (g13 : Buf (Elt F) ((Memref.whole cc0_scratch13).view.loc (c : Thread nD τ)))
    (g14 : Buf (Elt F) ((Memref.whole cc0_scratch14).view.loc (c : Thread nD τ)))
    (g15 : Buf (Elt F) ((Memref.whole cc0_scratch15).view.loc (c : Thread nD τ)))
    (g16 : Buf (Elt F) ((Memref.whole cc0_scratch16).view.loc (c : Thread nD τ)))
    (g17 : Buf (Elt F) ((Memref.whole cc0_scratch17).view.loc (c : Thread nD τ)))
    (g18 : Buf (Elt F) ((Memref.whole cc0_scratch18).view.loc (c : Thread nD τ)))
    (g19 : Buf (Elt F) ((Memref.whole cc0_scratch19).view.loc (c : Thread nD τ)))
    (plan : Transfers.BatchOf (c : Thread nD τ) (SemLoc.dma (sig := sig) 5) 20) :
    { L : List (View.Piece (Elt F) S1x1 .f32) //
      ∀ (W : Waits sig Unit) (K : PUnit → sProp 𝕄),
        iprop((arg1.view.loc (c : Thread nD τ) ↦[arg1.view.set]{fullShare} f1) ∗ (arg2.view.loc (c : Thread nD τ) ↦[arg2.view.set]{fullShare} f2)
            ∗ (arg5.view.loc (c : Thread nD τ) ↦[arg5.view.set]{fullShare} f5)
            ∗ toks c main_v1 q fp ∗ toks c main_v3 q ft
            ∗ (heldAt c cc0_scratch0 g0 ∗ heldAt c cc0_scratch1 g1 ∗ heldAt c cc0_scratch2 g2 ∗ heldAt c cc0_scratch3 g3 ∗ heldAt c cc0_scratch4 g4 ∗ heldAt c cc0_scratch5 g5 ∗ heldAt c cc0_scratch6 g6 ∗ heldAt c cc0_scratch7 g7 ∗ heldAt c cc0_scratch8 g8 ∗ heldAt c cc0_scratch9 g9 ∗ heldAt c cc0_scratch10 g10 ∗ heldAt c cc0_scratch11 g11 ∗ heldAt c cc0_scratch12 g12 ∗ heldAt c cc0_scratch13 g13 ∗ heldAt c cc0_scratch14 g14 ∗ heldAt c cc0_scratch15 g15 ∗ heldAt c cc0_scratch16 g16 ∗ heldAt c cc0_scratch17 g17 ∗ heldAt c cc0_scratch18 g18 ∗ heldAt c cc0_scratch19 g19)
            ∗ semVal ((c : Thread nD τ), SemLoc.dma 5) 0
            ∗ owes (c : Thread nD τ) 0 W
            ∗ (iprop((arg1.view.loc (c : Thread nD τ) ↦[arg1.view.set]{fullShare} f1) ∗ (arg2.view.loc (c : Thread nD τ) ↦[arg2.view.set]{fullShare} f2)
                ∗ (∃ f, arg5.view.loc (c : Thread nD τ) ↦[arg5.view.set]{fullShare} arg5.view.writes (Elt F) f L)
                ∗ toks c main_v1 q fp ∗ toks c main_v3 q ft
                ∗ Pipeline.scopedRest (Ix := Unit) (Name := ℕ) (U := Pipeline.UD sig nD τ) (Lvl := ℕ) (Val := Elt F) spec0 c
                ∗ semVal ((c : Thread nD τ), SemLoc.dma 5) 0
                ∗ (∃ W', owes (c : Thread nD τ) 0 W')) -∗ K ⟨⟩))
          ⊢ wp frame (wpE (defs₀ (F := F)) Variants.none c none) Set.univ
              (cc0__loss_kernel i arg1 harg1 arg2 harg2 (Memref.whole main_v1) (Memref.isWhole_whole _) (Memref.whole main_v3) (Memref.isWhole_whole _)
                arg5 harg5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) cc0_scratch20) K } := by
  refine ⟨?_, fun W K => ?run⟩
  case run =>
    simp only [cc0__loss_kernel_eq_skeleton]; unfold cc0__loss_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
    unfold toks heldAt
    rw [scratch_eq, bigSep_ten, bigSep_ten]
    iintro ⟨H1, H2, H5, ⟨Hp0, Hp1, Hp2, Hp3, Hp4, Hp5, Hp6, Hp7, Hp8, Hp9⟩, ⟨Ht0, Ht1, Ht2, Ht3, Ht4, Ht5, Ht6, Ht7, Ht8, Ht9⟩, ⟨Hs0, Hs1, Hs2, Hs3, Hs4, Hs5, Hs6, Hs7, Hs8, Hs9, Hs10, Hs11, Hs12, Hs13, Hs14, Hs15, Hs16, Hs17, Hs18, Hs19⟩, Hq, HO, Hk⟩
    sl_exec
    sl_step
    iapply Hk
    isplitl [H1]; · iexact H1
    isplitl [H2]; · iexact H2
    isplitl [H5]; · iexists _; iexact H5
    isplitl [Hp0 Hp1 Hp2 Hp3 Hp4 Hp5 Hp6 Hp7 Hp8 Hp9]
    · isplitl [Hp0]; · iexact Hp0
      isplitl [Hp1]; · iexact Hp1
      isplitl [Hp2]; · iexact Hp2
      isplitl [Hp3]; · iexact Hp3
      isplitl [Hp4]; · iexact Hp4
      isplitl [Hp5]; · iexact Hp5
      isplitl [Hp6]; · iexact Hp6
      isplitl [Hp7]; · iexact Hp7
      isplitl [Hp8]; · iexact Hp8
      iexact Hp9
    isplitl [Ht0 Ht1 Ht2 Ht3 Ht4 Ht5 Ht6 Ht7 Ht8 Ht9]
    · isplitl [Ht0]; · iexact Ht0
      isplitl [Ht1]; · iexact Ht1
      isplitl [Ht2]; · iexact Ht2
      isplitl [Ht3]; · iexact Ht3
      isplitl [Ht4]; · iexact Ht4
      isplitl [Ht5]; · iexact Ht5
      isplitl [Ht6]; · iexact Ht6
      isplitl [Ht7]; · iexact Ht7
      isplitl [Ht8]; · iexact Ht8
      iexact Ht9
    isplitl [Hs0 Hs1 Hs2 Hs3 Hs4 Hs5 Hs6 Hs7 Hs8 Hs9 Hs10 Hs11 Hs12 Hs13 Hs14 Hs15 Hs16 Hs17 Hs18 Hs19]
    · isplitl [Hs0]; · iexists _; iexact Hs0
      isplitl [Hs1]; · iexists _; iexact Hs1
      isplitl [Hs2]; · iexists _; iexact Hs2
      isplitl [Hs3]; · iexists _; iexact Hs3
      isplitl [Hs4]; · iexists _; iexact Hs4
      isplitl [Hs5]; · iexists _; iexact Hs5
      isplitl [Hs6]; · iexists _; iexact Hs6
      isplitl [Hs7]; · iexists _; iexact Hs7
      isplitl [Hs8]; · iexists _; iexact Hs8
      isplitl [Hs9]; · iexists _; iexact Hs9
      isplitl [Hs10]; · iexists _; iexact Hs10
      isplitl [Hs11]; · iexists _; iexact Hs11
      isplitl [Hs12]; · iexists _; iexact Hs12
      isplitl [Hs13]; · iexists _; iexact Hs13
      isplitl [Hs14]; · iexists _; iexact Hs14
      isplitl [Hs15]; · iexists _; iexact Hs15
      isplitl [Hs16]; · iexists _; iexact Hs16
      isplitl [Hs17]; · iexists _; iexact Hs17
      isplitl [Hs18]; · iexists _; iexact Hs18
      iexists _; iexact Hs19
    isplitl [Hq]; · iexact Hq
    iexists _; iexact HO

end Cert.KernelIdeal.Hand

end
-- ==== Proof.OutIdeal.lean ====
/-
  What one run of the body leaves in the output block, as a function of what it reads.
-/
module

public import proofs.«01_k».proof.Proof.BodyIdeal
public import Idealize.ShloMosaic.Lib.Pipeline.Value

@[expose] public section

set_option maxRecDepth 16384

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open Idealize.SL.ProofMode

variable {F : FTy → Type} [FloatOps F]

/-! The values the body computes between its loads and its store, each over the channels' slabs
    `p` of the predictions and `t` of the targets. -/

/-- A cell's row. -/
def rowOf (p t : Fin 10 → FVec F S196x256 .f32) : FVec F S196x256 .f32 := k0_pay5 (iota .tc S196x256 32 [0] iota_S196x256_d0_w32) 14#32 k0_pay3 k0_pay4
/-- The first predicted box: left edge. -/
def px1 (p t : Fin 10 → FVec F S196x256 .f32) : FVec F S196x256 .f32 := k0_pay8 k0_pay2 (p 0) (p 2)
/-- The first predicted box: top edge. -/
def py1 (p t : Fin 10 → FVec F S196x256 .f32) : FVec F S196x256 .f32 := k0_pay9 (iota .tc S196x256 32 [0] iota_S196x256_d0_w32) 14#32 k0_pay3 k0_pay4 (p 1) (p 3)
/-- The first predicted box: right edge. -/
def px2 (p t : Fin 10 → FVec F S196x256 .f32) : FVec F S196x256 .f32 := k0_pay10 k0_pay2 (p 0) (p 2)
/-- The first predicted box: bottom edge. -/
def py2 (p t : Fin 10 → FVec F S196x256 .f32) : FVec F S196x256 .f32 := k0_pay11 (iota .tc S196x256 32 [0] iota_S196x256_d0_w32) 14#32 k0_pay3 k0_pay4 (p 1) (p 3)
/-- The second predicted box: its centre's column. -/
def qcol (p t : Fin 10 → FVec F S196x256 .f32) : FVec F S196x256 .f32 := k0_pay12 k0_pay2 (p 5)
/-- The second predicted box: left edge. -/
def qx1 (p t : Fin 10 → FVec F S196x256 .f32) : FVec F S196x256 .f32 := k0_pay15 (p 7) (qcol p t)
/-- The second predicted box: top edge. -/
def qy1 (p t : Fin 10 → FVec F S196x256 .f32) : FVec F S196x256 .f32 := k0_pay16 (rowOf p t) (p 6) (p 8)
/-- The second predicted box: right edge. -/
def qx2 (p t : Fin 10 → FVec F S196x256 .f32) : FVec F S196x256 .f32 := k0_pay17 (p 7) (qcol p t)
/-- The second predicted box: bottom edge. -/
def qy2 (p t : Fin 10 → FVec F S196x256 .f32) : FVec F S196x256 .f32 := k0_pay18 (rowOf p t) (p 6) (p 8)
/-- The first target box: left edge. -/
def tx1 (p t : Fin 10 → FVec F S196x256 .f32) : FVec F S196x256 .f32 := k0_pay21 k0_pay2 (t 0) (t 2)
/-- The first target box: top edge. -/
def ty1 (p t : Fin 10 → FVec F S196x256 .f32) : FVec F S196x256 .f32 := k0_pay22 (rowOf p t) (t 1) (t 3)
/-- The first target box: right edge. -/
def tx2 (p t : Fin 10 → FVec F S196x256 .f32) : FVec F S196x256 .f32 := k0_pay23 k0_pay2 (t 0) (t 2)
/-- The first target box: bottom edge. -/
def ty2 (p t : Fin 10 → FVec F S196x256 .f32) : FVec F S196x256 .f32 := k0_pay24 (rowOf p t) (t 1) (t 3)
/-- The second target box: left edge. -/
def ux1 (p t : Fin 10 → FVec F S196x256 .f32) : FVec F S196x256 .f32 := k0_pay27 k0_pay2 (t 5) (t 7)
/-- The second target box: top edge. -/
def uy1 (p t : Fin 10 → FVec F S196x256 .f32) : FVec F S196x256 .f32 := k0_pay28 (rowOf p t) (t 6) (t 8)
/-- The second target box: right edge. -/
def ux2 (p t : Fin 10 → FVec F S196x256 .f32) : FVec F S196x256 .f32 := k0_pay29 k0_pay2 (t 5) (t 7)
/-- The second target box: bottom edge. -/
def uy2 (p t : Fin 10 → FVec F S196x256 .f32) : FVec F S196x256 .f32 := k0_pay30 (rowOf p t) (t 6) (t 8)
/-- The first boxes' overlap. -/
def iouA (p t : Fin 10 → FVec F S196x256 .f32) : FVec F S196x256 .f32 := k0_pay31 (px1 p t) (py1 p t) (px2 p t) (py2 p t) (tx1 p t) (ty1 p t) (tx2 p t) (ty2 p t)
/-- The second boxes' overlap. -/
def iouB (p t : Fin 10 → FVec F S196x256 .f32) : FVec F S196x256 .f32 := k0_pay32 (qx1 p t) (qy1 p t) (qx2 p t) (qy2 p t) (ux1 p t) (uy1 p t) (ux2 p t) (uy2 p t)
/-- Whether the first boxes overlap at least as much as the second. -/
def firstBox (p t : Fin 10 → FVec F S196x256 .f32) : IVec S196x256 1 := k0_pay33 (qx1 p t) (qy1 p t) (qx2 p t) (qy2 p t) (ux1 p t) (uy1 p t) (ux2 p t) (uy2 p t) (iouA p t)
/-- Whether the first target box holds an object. -/
def objA (p t : Fin 10 → FVec F S196x256 .f32) : IVec S196x256 1 := k0_pay34 (t 4)
/-- Whether the second target box holds an object. -/
def objB (p t : Fin 10 → FVec F S196x256 .f32) : IVec S196x256 1 := k0_pay35 (t 9)
/-- The first box's squared confidence error. -/
def bceA (p t : Fin 10 → FVec F S196x256 .f32) : FVec F S196x256 .f32 := k0_pay36 (t 4) (p 4)
/-- The second box's squared confidence error. -/
def bceB (p t : Fin 10 → FVec F S196x256 .f32) : FVec F S196x256 .f32 := k0_pay37 (t 9) (p 9)
/-- The sum of every box's squared confidence error. -/
def bceTotal (p t : Fin 10 → FVec F S196x256 .f32) : F .f32 := k0_pay38 (t 4) (t 9) (p 4) (p 9)
/-- Whether the first box answers for an object. -/
def respA (p t : Fin 10 → FVec F S196x256 .f32) : IVec S196x256 1 := k0_pay39 (qx1 p t) (qy1 p t) (qx2 p t) (qy2 p t) (ux1 p t) (uy1 p t) (ux2 p t) (uy2 p t) (iouA p t) (t 4) (t 9)
/-- The sum of the squared confidence errors of the boxes that answer for an object. -/
def bceResp (p t : Fin 10 → FVec F S196x256 .f32) : F .f32 := k0_pay41 (firstBox p t) (objB p t) (bceA p t) (bceB p t) (respA p t) k0_pay40
/-- The first boxes' squared distance of centres. -/
def rhoA (p t : Fin 10 → FVec F S196x256 .f32) : FVec F S196x256 .f32 := k0_pay42 (px1 p t) (py1 p t) (px2 p t) (py2 p t) (tx1 p t) (ty1 p t) (tx2 p t) (ty2 p t)
/-- The squared diagonal of the least box around the first boxes. -/
def diagA (p t : Fin 10 → FVec F S196x256 .f32) : FVec F S196x256 .f32 := k0_pay43 (px1 p t) (py1 p t) (px2 p t) (py2 p t) (tx1 p t) (ty1 p t) (tx2 p t) (ty2 p t)
/-- The first predicted box's width. -/
def pw (p t : Fin 10 → FVec F S196x256 .f32) : FVec F S196x256 .f32 := k0_pay44 (px1 p t) (px2 p t)
/-- The first predicted box's height. -/
def ph (p t : Fin 10 → FVec F S196x256 .f32) : FVec F S196x256 .f32 := k0_pay45 (py1 p t) (py2 p t)
/-- The first target box's width. -/
def tw (p t : Fin 10 → FVec F S196x256 .f32) : FVec F S196x256 .f32 := k0_pay46 (tx1 p t) (tx2 p t)
/-- The first target box's height. -/
def th (p t : Fin 10 → FVec F S196x256 .f32) : FVec F S196x256 .f32 := k0_pay47 (ty1 p t) (ty2 p t)
/-- The first target box's height, held above its least value. -/
def thEps (p t : Fin 10 → FVec F S196x256 .f32) : FVec F S196x256 .f32 := k0_pay48 (th p t) (Scalar.ofBits .f32 0x358637BD#32)
/-- The arctangent of the first target box's sides' ratio. -/
def tAtan (p t : Fin 10 → FVec F S196x256 .f32) : FVec F S196x256 .f32 := k0_pay49 (tw p t) (th p t) (Scalar.ofBits .f32 0x358637BD#32)
/-- The first predicted box's sides' ratio. -/
def pRatio (p t : Fin 10 → FVec F S196x256 .f32) : FVec F S196x256 .f32 := k0_pay50 (pw p t) (ph p t)
/-- Whether that ratio is in the upper range. -/
def pBig (p t : Fin 10 → FVec F S196x256 .f32) : IVec S196x256 1 := k0_pay51 (pw p t) (ph p t)
/-- Whether that ratio is above the lower range. -/
def pMid (p t : Fin 10 → FVec F S196x256 .f32) : IVec S196x256 1 := k0_pay52 (pw p t) (ph p t)
/-- What the range adds to the arctangent, the upper range apart: a quarter of pi or zero. -/
def pInv (p t : Fin 10 → FVec F S196x256 .f32) : FVec F S196x256 .f32 := k0_pay53 (pw p t) (ph p t)
/-- The first boxes' overlap less its penalties. -/
def ciouA (p t : Fin 10 → FVec F S196x256 .f32) : FVec F S196x256 .f32 := k0_pay54 (iouA p t) (rhoA p t) (diagA p t) (tAtan p t) (pRatio p t) (pBig p t) (pMid p t) (pInv p t)
/-- The first target box's weight. -/
def weightA (p t : Fin 10 → FVec F S196x256 .f32) : FVec F S196x256 .f32 := k0_pay55 (tw p t) (thEps p t)
/-- The loss of the first boxes. -/
def lossA (p t : Fin 10 → FVec F S196x256 .f32) : FVec F S196x256 .f32 := k0_pay57 (ciouA p t) (weightA p t) k0_pay56
/-- The second boxes' squared distance of centres. -/
def rhoB (p t : Fin 10 → FVec F S196x256 .f32) : FVec F S196x256 .f32 := k0_pay58 (qx1 p t) (qy1 p t) (qx2 p t) (qy2 p t) (ux1 p t) (uy1 p t) (ux2 p t) (uy2 p t)
/-- The squared diagonal of the least box around the second boxes. -/
def diagB (p t : Fin 10 → FVec F S196x256 .f32) : FVec F S196x256 .f32 := k0_pay59 (qx1 p t) (qy1 p t) (qx2 p t) (qy2 p t) (ux1 p t) (uy1 p t) (ux2 p t) (uy2 p t)
/-- The second predicted box's width. -/
def qw (p t : Fin 10 → FVec F S196x256 .f32) : FVec F S196x256 .f32 := k0_pay60 (qx1 p t) (qx2 p t)
/-- The second predicted box's height. -/
def qh (p t : Fin 10 → FVec F S196x256 .f32) : FVec F S196x256 .f32 := k0_pay61 (qy1 p t) (qy2 p t)
/-- The second target box's width. -/
def uw (p t : Fin 10 → FVec F S196x256 .f32) : FVec F S196x256 .f32 := k0_pay62 (ux1 p t) (ux2 p t)
/-- The second target box's height. -/
def uh (p t : Fin 10 → FVec F S196x256 .f32) : FVec F S196x256 .f32 := k0_pay63 (uy1 p t) (uy2 p t)
/-- The second target box's sides' ratio. -/
def uRatio (p t : Fin 10 → FVec F S196x256 .f32) : FVec F S196x256 .f32 := k0_pay64 (ux1 p t) (uy1 p t) (ux2 p t) (uy2 p t)
/-- Whether that ratio is in the upper range. -/
def uBig (p t : Fin 10 → FVec F S196x256 .f32) : IVec S196x256 1 := k0_pay65 (ux1 p t) (uy1 p t) (ux2 p t) (uy2 p t)
/-- Whether that ratio is above the lower range. -/
def uMid (p t : Fin 10 → FVec F S196x256 .f32) : IVec S196x256 1 := k0_pay66 (ux1 p t) (uy1 p t) (ux2 p t) (uy2 p t)
/-- The arctangent of that ratio. -/
def uAtan (p t : Fin 10 → FVec F S196x256 .f32) : FVec F S196x256 .f32 := k0_pay67 (uRatio p t) (uBig p t) (uMid p t) (Scalar.ofBits .f32 0x3F490FDB#32) (Scalar.ofBits .f32 0x00000000#32)
/-- The second predicted box's sides' ratio. -/
def qRatio (p t : Fin 10 → FVec F S196x256 .f32) : FVec F S196x256 .f32 := k0_pay68 (qw p t) (qh p t)
/-- Whether that ratio is in the upper range. -/
def qBig (p t : Fin 10 → FVec F S196x256 .f32) : IVec S196x256 1 := k0_pay69 (qw p t) (qh p t)
/-- Whether that ratio is above the lower range. -/
def qMid (p t : Fin 10 → FVec F S196x256 .f32) : IVec S196x256 1 := k0_pay70 (qw p t) (qh p t)
/-- What the range adds to the arctangent: half of pi, a quarter of pi or zero. -/
def qInv (p t : Fin 10 → FVec F S196x256 .f32) : FVec F S196x256 .f32 := k0_pay71 (qw p t) (qh p t)
/-- The negative reciprocal of that ratio. -/
def qRed (p t : Fin 10 → FVec F S196x256 .f32) : FVec F S196x256 .f32 := k0_pay72 (qw p t) (qh p t)
/-- That ratio less one. -/
def qSq (p t : Fin 10 → FVec F S196x256 .f32) : FVec F S196x256 .f32 := k0_pay73 (qw p t) (qh p t)
/-- The loss of the second boxes. -/
def lossB (p t : Fin 10 → FVec F S196x256 .f32) : FVec F S196x256 .f32 := k0_pay75 (iouB p t) (rhoB p t) (diagB p t) (uw p t) (uh p t) (uAtan p t) (qRatio p t) (qBig p t) (qMid p t) (qInv p t) (qRed p t) (qSq p t) k0_pay74
/-- The first boxes' loss where the first box answers, else zero. -/
def boxA (p t : Fin 10 → FVec F S196x256 .f32) : FVec F S196x256 .f32 := k0_pay76 (firstBox p t) (objA p t) (objB p t) (lossA p t)
/-- Whether the second box answers for an object. -/
def boxB (p t : Fin 10 → FVec F S196x256 .f32) : IVec S196x256 1 := k0_pay77 (firstBox p t) (objB p t)

/-- The value one run of the body stores into the output block: `x1`, `x2` the two window blocks,
    `p k`, `t k` the slabs of channel `k` of the predictions and of the targets, `o` the block's
    former value. -/
def outVal (i : grid0.Coords) (x1 x2 : FVec F S196x30x256 .f32) (p t : Fin 10 → FVec F S196x256 .f32)
    (o : FVec F S1x1 .f32) : FVec F S1x1 .f32 :=
  k0_pay78 (BitVec.ofNat 32 (i 0).val) (k0_pay1 x1 x2) (objB p t) (bceTotal p t) (bceResp p t) (lossB p t) (boxA p t) (boxB p t) (Scalar.ofBits .f32 0x00000000#32) o

/-- One channel's slab of an array, as the body copies it: the squeezed slice at offset `off`. -/
def slabOf (c : Dev nD) (m : Memref sig .tc .hbm S196x30x1024 .f32) (off : Fin S196x30x1024.rank → ℕ) (inb : ∀ d, off d + S196x1x256.size d ≤ S196x30x1024.size d)
    (f : Buf (Elt F) (m.view.loc (c : Thread nD τ))) : FVec F S196x256 .f32 :=
  View.read (Elt F) ((m.slice (Rect.unit (s := S196x30x1024) off S196x1x256.size inb) (fun _ => rfl)).squeeze S196x256 squeezes_S196x1x256_S196x256).view f

/-- The ten channels' slabs of an array at grid point `i`. -/
def slabs (c : Dev nD) (i : grid0.Coords) (m : Memref sig .tc .hbm S196x30x1024 .f32)
    (f : Buf (Elt F) (m.view.loc (c : Thread nD τ))) : Fin 10 → FVec F S196x256 .f32 :=
  ![slabOf c m (k0_off1 i) (k0_off1_inb i) f, slabOf c m (k0_off2 i) (k0_off2_inb i) f, slabOf c m (k0_off3 i) (k0_off3_inb i) f, slabOf c m (k0_off4 i) (k0_off4_inb i) f, slabOf c m (k0_off5 i) (k0_off5_inb i) f, slabOf c m (k0_off6 i) (k0_off6_inb i) f, slabOf c m (k0_off7 i) (k0_off7_inb i) f, slabOf c m (k0_off8 i) (k0_off8_inb i) f, slabOf c m (k0_off9 i) (k0_off9_inb i) f, slabOf c m (k0_off10 i) (k0_off10_inb i) f]

/-- A load of a whole scratch buffer after a copy filled it reads the copy's payload. -/
theorem load_landed (m : Memref sig .tc .vmem S196x256 .f32) (g : m.view.ty.Contents (Elt F)) (w : S196x256.Idx → Elt F .f32) :
    View.readAt (Elt F) m.view (Rect.unit (s := S196x256) ![0, 0] S196x256.size inb_S196x256_S196x256_0_0).toLoadRect
      (View.write (Elt F) m.view g (ReadAs.same.apply w) Finset.univ) = w :=
  (View.ld_unit_zero (S := S196x256) (off := ![0, 0]) (by decide) _ _).trans (View.read_write_univ _ _)

/-- A load of a whole input block reads the block. -/
theorem load_block {m : Memref sig .tc .vmem S196x30x256 .f32} (h : m.IsWhole) (x : S196x30x256.Idx → Elt F .f32) :
    View.readAt (Elt F) m.view (Rect.unit (s := S196x30x256) ![0, 0, 0] S196x30x256.size inb_S196x30x256_S196x30x256_0_0_0).toLoadRect
      (h.unread x) = x :=
  (View.ld_unit_zero (S := S196x30x256) (off := ![0, 0, 0]) (by decide) _ _).trans (h.read_unread x)

/-- A load of the whole output block reads the block. -/
theorem load_out {m : Memref sig .tc .vmem S1x1 .f32} (h : m.IsWhole) (x : S1x1.Idx → Elt F .f32) :
    View.readAt (Elt F) m.view (Rect.unit (s := S1x1) ![0, 0] S1x1.size inb_S1x1_S1x1_0_0).toLoadRect
      (h.unread x) = x :=
  (View.ld_unit_zero (S := S1x1) (off := ![0, 0]) (by decide) _ _).trans (h.read_unread x)

/-- What a load of a whole scratch buffer reads after the copy of a slab filled it. -/
def loaded (m : Memref sig .tc .vmem S196x256 .f32) (g : m.view.ty.Contents (Elt F)) (w : FVec F S196x256 .f32) : FVec F S196x256 .f32 :=
  View.readAt (Elt F) m.view (Rect.unit (s := S196x256) ![0, 0] S196x256.size inb_S196x256_S196x256_0_0).toLoadRect
    (View.write (Elt F) m.view g (ReadAs.same.apply w) Finset.univ)

/-- Such a load reads the slab. -/
theorem loaded_eq (m : Memref sig .tc .vmem S196x256 .f32) (g : m.view.ty.Contents (Elt F)) (w : FVec F S196x256 .f32) :
    loaded m g w = w := load_landed m g w

set_option maxHeartbeats 2000000 in
/-- What the body stores, over the loads as the body makes them: each value it computes is the one named above. -/
theorem stored_eq (c : Dev nD) (i : grid0.Coords)
    (arg1 : Memref sig .tc .vmem S196x30x256 .f32) (arg2 : Memref sig .tc .vmem S196x30x256 .f32) (arg5 : Memref sig .tc .vmem S1x1 .f32)
    (f1 : Buf (Elt F) (arg1.view.loc (c : Thread nD τ))) (f2 : Buf (Elt F) (arg2.view.loc (c : Thread nD τ)))
    (f5 : Buf (Elt F) (arg5.view.loc (c : Thread nD τ)))
    (fp : Bf (F := F) c main_v1) (ft : Bf (F := F) c main_v3)
    (g0 : Buf (Elt F) ((Memref.whole cc0_scratch0).view.loc (c : Thread nD τ)))
    (g1 : Buf (Elt F) ((Memref.whole cc0_scratch1).view.loc (c : Thread nD τ)))
    (g2 : Buf (Elt F) ((Memref.whole cc0_scratch2).view.loc (c : Thread nD τ)))
    (g3 : Buf (Elt F) ((Memref.whole cc0_scratch3).view.loc (c : Thread nD τ)))
    (g4 : Buf (Elt F) ((Memref.whole cc0_scratch4).view.loc (c : Thread nD τ)))
    (g5 : Buf (Elt F) ((Memref.whole cc0_scratch5).view.loc (c : Thread nD τ)))
    (g6 : Buf (Elt F) ((Memref.whole cc0_scratch6).view.loc (c : Thread nD τ)))
    (g7 : Buf (Elt F) ((Memref.whole cc0_scratch7).view.loc (c : Thread nD τ)))
    (g8 : Buf (Elt F) ((Memref.whole cc0_scratch8).view.loc (c : Thread nD τ)))
    (g9 : Buf (Elt F) ((Memref.whole cc0_scratch9).view.loc (c : Thread nD τ)))
    (g10 : Buf (Elt F) ((Memref.whole cc0_scratch10).view.loc (c : Thread nD τ)))
    (g11 : Buf (Elt F) ((Memref.whole cc0_scratch11).view.loc (c : Thread nD τ)))
    (g12 : Buf (Elt F) ((Memref.whole cc0_scratch12).view.loc (c : Thread nD τ)))
    (g13 : Buf (Elt F) ((Memref.whole cc0_scratch13).view.loc (c : Thread nD τ)))
    (g14 : Buf (Elt F) ((Memref.whole cc0_scratch14).view.loc (c : Thread nD τ)))
    (g15 : Buf (Elt F) ((Memref.whole cc0_scratch15).view.loc (c : Thread nD τ)))
    (g16 : Buf (Elt F) ((Memref.whole cc0_scratch16).view.loc (c : Thread nD τ)))
    (g17 : Buf (Elt F) ((Memref.whole cc0_scratch17).view.loc (c : Thread nD τ)))
    (g18 : Buf (Elt F) ((Memref.whole cc0_scratch18).view.loc (c : Thread nD τ)))
    (g19 : Buf (Elt F) ((Memref.whole cc0_scratch19).view.loc (c : Thread nD τ)))
    (p t : Fin 10 → FVec F S196x256 .f32)
    (h_v150 : kernelRun.sl.v150 c i fp g0 = p 0)
    (h_v151 : kernelRun.sl.v151 c i fp g1 = p 1)
    (h_v152 : kernelRun.sl.v152 c i fp g2 = p 2)
    (h_v153 : kernelRun.sl.v153 c i fp g3 = p 3)
    (h_v172 : kernelRun.sl.v172 c i fp g5 = p 5)
    (h_v173 : kernelRun.sl.v173 c i fp g6 = p 6)
    (h_v174 : kernelRun.sl.v174 c i fp g7 = p 7)
    (h_v175 : kernelRun.sl.v175 c i fp g8 = p 8)
    (h_v289 : kernelRun.sl.v289 c i fp g4 = p 4)
    (h_v292 : kernelRun.sl.v292 c i fp g9 = p 9)
    (h_v194 : kernelRun.sl.v194 c i ft g10 = t 0)
    (h_v195 : kernelRun.sl.v195 c i ft g11 = t 1)
    (h_v196 : kernelRun.sl.v196 c i ft g12 = t 2)
    (h_v197 : kernelRun.sl.v197 c i ft g13 = t 3)
    (h_v216 : kernelRun.sl.v216 c i ft g15 = t 5)
    (h_v217 : kernelRun.sl.v217 c i ft g16 = t 6)
    (h_v218 : kernelRun.sl.v218 c i ft g17 = t 7)
    (h_v219 : kernelRun.sl.v219 c i ft g18 = t 8)
    (h_v283 : kernelRun.sl.v283 c i ft g14 = t 4)
    (h_v284 : kernelRun.sl.v284 c i ft g19 = t 9) :
    kernelRun.sl.r_63 c i arg1 arg2 arg5 f1 f2 f5 fp ft g0 g1 g2 g3 g4 g5 g6 g7 g8 g9 g10 g11 g12 g13 g14 g15 g16 g17 g18 g19
      = outVal i (View.readAt (Elt F) arg1.view (Rect.unit (s := S196x30x256) ![0, 0, 0] S196x30x256.size inb_S196x30x256_S196x30x256_0_0_0).toLoadRect f1) (View.readAt (Elt F) arg2.view (Rect.unit (s := S196x30x256) ![0, 0, 0] S196x30x256.size inb_S196x30x256_S196x30x256_0_0_0).toLoadRect f2) p t
          (View.readAt (Elt F) arg5.view (Rect.unit (s := S1x1) ![0, 0] S1x1.size inb_S1x1_S1x1_0_0).toLoadRect f5) := by
  have h_r_1 : kernelRun.sl.r_1  = rowOf p t := by
    rw [kernelRun.sl.r_1]; rfl
  have h_r_2 : kernelRun.sl.r_2 c i fp g0 g2 = px1 p t := by
    rw [kernelRun.sl.r_2, h_v150, h_v152]; rfl
  have h_r_3 : kernelRun.sl.r_3 c i fp g1 g3 = py1 p t := by
    rw [kernelRun.sl.r_3, h_v151, h_v153]; rfl
  have h_r_4 : kernelRun.sl.r_4 c i fp g0 g2 = px2 p t := by
    rw [kernelRun.sl.r_4, h_v150, h_v152]; rfl
  have h_r_5 : kernelRun.sl.r_5 c i fp g1 g3 = py2 p t := by
    rw [kernelRun.sl.r_5, h_v151, h_v153]; rfl
  have h_r_6 : kernelRun.sl.r_6 c i fp g5 = qcol p t := by
    rw [kernelRun.sl.r_6, h_v172]; rfl
  have h_r_7 : kernelRun.sl.r_7 c i fp g5 g7 = qx1 p t := by
    rw [kernelRun.sl.r_7, h_r_6, h_v174]; rfl
  have h_r_8 : kernelRun.sl.r_8 c i fp g6 g8 = qy1 p t := by
    rw [kernelRun.sl.r_8, h_r_1, h_v173, h_v175]; rfl
  have h_r_9 : kernelRun.sl.r_9 c i fp g5 g7 = qx2 p t := by
    rw [kernelRun.sl.r_9, h_r_6, h_v174]; rfl
  have h_r_10 : kernelRun.sl.r_10 c i fp g6 g8 = qy2 p t := by
    rw [kernelRun.sl.r_10, h_r_1, h_v173, h_v175]; rfl
  have h_r_11 : kernelRun.sl.r_11 c i ft g10 g12 = tx1 p t := by
    rw [kernelRun.sl.r_11, h_v194, h_v196]; rfl
  have h_r_12 : kernelRun.sl.r_12 c i ft g11 g13 = ty1 p t := by
    rw [kernelRun.sl.r_12, h_r_1, h_v195, h_v197]; rfl
  have h_r_13 : kernelRun.sl.r_13 c i ft g10 g12 = tx2 p t := by
    rw [kernelRun.sl.r_13, h_v194, h_v196]; rfl
  have h_r_14 : kernelRun.sl.r_14 c i ft g11 g13 = ty2 p t := by
    rw [kernelRun.sl.r_14, h_r_1, h_v195, h_v197]; rfl
  have h_r_15 : kernelRun.sl.r_15 c i ft g15 g17 = ux1 p t := by
    rw [kernelRun.sl.r_15, h_v216, h_v218]; rfl
  have h_r_16 : kernelRun.sl.r_16 c i ft g16 g18 = uy1 p t := by
    rw [kernelRun.sl.r_16, h_r_1, h_v217, h_v219]; rfl
  have h_r_17 : kernelRun.sl.r_17 c i ft g15 g17 = ux2 p t := by
    rw [kernelRun.sl.r_17, h_v216, h_v218]; rfl
  have h_r_18 : kernelRun.sl.r_18 c i ft g16 g18 = uy2 p t := by
    rw [kernelRun.sl.r_18, h_r_1, h_v217, h_v219]; rfl
  have h_r_19 : kernelRun.sl.r_19 c i fp ft g0 g1 g2 g3 g10 g11 g12 g13 = iouA p t := by
    rw [kernelRun.sl.r_19, h_r_11, h_r_12, h_r_13, h_r_14, h_r_2, h_r_3, h_r_4, h_r_5]; rfl
  have h_r_20 : kernelRun.sl.r_20 c i fp ft g5 g6 g7 g8 g15 g16 g17 g18 = iouB p t := by
    rw [kernelRun.sl.r_20, h_r_10, h_r_15, h_r_16, h_r_17, h_r_18, h_r_7, h_r_8, h_r_9]; rfl
  have h_r_21 : kernelRun.sl.r_21 c i fp ft g0 g1 g2 g3 g5 g6 g7 g8 g10 g11 g12 g13 g15 g16 g17 g18 = firstBox p t := by
    rw [kernelRun.sl.r_21, h_r_10, h_r_15, h_r_16, h_r_17, h_r_18, h_r_19, h_r_7, h_r_8, h_r_9]; rfl
  have h_r_22 : kernelRun.sl.r_22 c i ft g14 = objA p t := by
    rw [kernelRun.sl.r_22, h_v283]; rfl
  have h_r_23 : kernelRun.sl.r_23 c i ft g19 = objB p t := by
    rw [kernelRun.sl.r_23, h_v284]; rfl
  have h_r_24 : kernelRun.sl.r_24 c i fp ft g4 g14 = bceA p t := by
    rw [kernelRun.sl.r_24, h_v283, h_v289]; rfl
  have h_r_25 : kernelRun.sl.r_25 c i fp ft g9 g19 = bceB p t := by
    rw [kernelRun.sl.r_25, h_v284, h_v292]; rfl
  have h_r_26 : kernelRun.sl.r_26 c i fp ft g4 g9 g14 g19 = bceTotal p t := by
    rw [kernelRun.sl.r_26, h_v283, h_v284, h_v289, h_v292]; rfl
  have h_r_27 : kernelRun.sl.r_27 c i fp ft g0 g1 g2 g3 g5 g6 g7 g8 g10 g11 g12 g13 g14 g15 g16 g17 g18 g19 = respA p t := by
    rw [kernelRun.sl.r_27, h_r_10, h_r_15, h_r_16, h_r_17, h_r_18, h_r_19, h_r_7, h_r_8, h_r_9, h_v283, h_v284]; rfl
  have h_r_28 : kernelRun.sl.r_28 c i fp ft g0 g1 g2 g3 g4 g5 g6 g7 g8 g9 g10 g11 g12 g13 g14 g15 g16 g17 g18 g19 = bceResp p t := by
    rw [kernelRun.sl.r_28, h_r_21, h_r_23, h_r_24, h_r_25, h_r_27]; rfl
  have h_r_29 : kernelRun.sl.r_29 c i fp ft g0 g1 g2 g3 g10 g11 g12 g13 = rhoA p t := by
    rw [kernelRun.sl.r_29, h_r_11, h_r_12, h_r_13, h_r_14, h_r_2, h_r_3, h_r_4, h_r_5]; rfl
  have h_r_30 : kernelRun.sl.r_30 c i fp ft g0 g1 g2 g3 g10 g11 g12 g13 = diagA p t := by
    rw [kernelRun.sl.r_30, h_r_11, h_r_12, h_r_13, h_r_14, h_r_2, h_r_3, h_r_4, h_r_5]; rfl
  have h_r_31 : kernelRun.sl.r_31 c i fp g0 g2 = pw p t := by
    rw [kernelRun.sl.r_31, h_r_2, h_r_4]; rfl
  have h_r_32 : kernelRun.sl.r_32 c i fp g1 g3 = ph p t := by
    rw [kernelRun.sl.r_32, h_r_3, h_r_5]; rfl
  have h_r_33 : kernelRun.sl.r_33 c i ft g10 g12 = tw p t := by
    rw [kernelRun.sl.r_33, h_r_11, h_r_13]; rfl
  have h_r_34 : kernelRun.sl.r_34 c i ft g11 g13 = th p t := by
    rw [kernelRun.sl.r_34, h_r_12, h_r_14]; rfl
  have h_r_35 : kernelRun.sl.r_35 c i ft g11 g13 = thEps p t := by
    rw [kernelRun.sl.r_35, h_r_34]; rfl
  have h_r_36 : kernelRun.sl.r_36 c i ft g10 g11 g12 g13 = tAtan p t := by
    rw [kernelRun.sl.r_36, h_r_33, h_r_34]; rfl
  have h_r_37 : kernelRun.sl.r_37 c i fp g0 g1 g2 g3 = pRatio p t := by
    rw [kernelRun.sl.r_37, h_r_31, h_r_32]; rfl
  have h_r_38 : kernelRun.sl.r_38 c i fp g0 g1 g2 g3 = pBig p t := by
    rw [kernelRun.sl.r_38, h_r_31, h_r_32]; rfl
  have h_r_39 : kernelRun.sl.r_39 c i fp g0 g1 g2 g3 = pMid p t := by
    rw [kernelRun.sl.r_39, h_r_31, h_r_32]; rfl
  have h_r_40 : kernelRun.sl.r_40 c i fp g0 g1 g2 g3 = pInv p t := by
    rw [kernelRun.sl.r_40, h_r_31, h_r_32]; rfl
  have h_r_41 : kernelRun.sl.r_41 c i fp ft g0 g1 g2 g3 g10 g11 g12 g13 = ciouA p t := by
    rw [kernelRun.sl.r_41, h_r_19, h_r_29, h_r_30, h_r_36, h_r_37, h_r_38, h_r_39, h_r_40]; rfl
  have h_r_42 : kernelRun.sl.r_42 c i ft g10 g11 g12 g13 = weightA p t := by
    rw [kernelRun.sl.r_42, h_r_33, h_r_35]; rfl
  have h_r_43 : kernelRun.sl.r_43 c i fp ft g0 g1 g2 g3 g10 g11 g12 g13 = lossA p t := by
    rw [kernelRun.sl.r_43, h_r_41, h_r_42]; rfl
  have h_r_44 : kernelRun.sl.r_44 c i fp ft g5 g6 g7 g8 g15 g16 g17 g18 = rhoB p t := by
    rw [kernelRun.sl.r_44, h_r_10, h_r_15, h_r_16, h_r_17, h_r_18, h_r_7, h_r_8, h_r_9]; rfl
  have h_r_45 : kernelRun.sl.r_45 c i fp ft g5 g6 g7 g8 g15 g16 g17 g18 = diagB p t := by
    rw [kernelRun.sl.r_45, h_r_10, h_r_15, h_r_16, h_r_17, h_r_18, h_r_7, h_r_8, h_r_9]; rfl
  have h_r_46 : kernelRun.sl.r_46 c i fp g5 g7 = qw p t := by
    rw [kernelRun.sl.r_46, h_r_7, h_r_9]; rfl
  have h_r_47 : kernelRun.sl.r_47 c i fp g6 g8 = qh p t := by
    rw [kernelRun.sl.r_47, h_r_10, h_r_8]; rfl
  have h_r_48 : kernelRun.sl.r_48 c i ft g15 g17 = uw p t := by
    rw [kernelRun.sl.r_48, h_r_15, h_r_17]; rfl
  have h_r_49 : kernelRun.sl.r_49 c i ft g16 g18 = uh p t := by
    rw [kernelRun.sl.r_49, h_r_16, h_r_18]; rfl
  have h_r_50 : kernelRun.sl.r_50 c i ft g15 g16 g17 g18 = uRatio p t := by
    rw [kernelRun.sl.r_50, h_r_15, h_r_16, h_r_17, h_r_18]; rfl
  have h_r_51 : kernelRun.sl.r_51 c i ft g15 g16 g17 g18 = uBig p t := by
    rw [kernelRun.sl.r_51, h_r_15, h_r_16, h_r_17, h_r_18]; rfl
  have h_r_52 : kernelRun.sl.r_52 c i ft g15 g16 g17 g18 = uMid p t := by
    rw [kernelRun.sl.r_52, h_r_15, h_r_16, h_r_17, h_r_18]; rfl
  have h_r_53 : kernelRun.sl.r_53 c i ft g15 g16 g17 g18 = uAtan p t := by
    rw [kernelRun.sl.r_53, h_r_50, h_r_51, h_r_52]; rfl
  have h_r_54 : kernelRun.sl.r_54 c i fp g5 g6 g7 g8 = qRatio p t := by
    rw [kernelRun.sl.r_54, h_r_46, h_r_47]; rfl
  have h_r_55 : kernelRun.sl.r_55 c i fp g5 g6 g7 g8 = qBig p t := by
    rw [kernelRun.sl.r_55, h_r_46, h_r_47]; rfl
  have h_r_56 : kernelRun.sl.r_56 c i fp g5 g6 g7 g8 = qMid p t := by
    rw [kernelRun.sl.r_56, h_r_46, h_r_47]; rfl
  have h_r_57 : kernelRun.sl.r_57 c i fp g5 g6 g7 g8 = qInv p t := by
    rw [kernelRun.sl.r_57, h_r_46, h_r_47]; rfl
  have h_r_58 : kernelRun.sl.r_58 c i fp g5 g6 g7 g8 = qRed p t := by
    rw [kernelRun.sl.r_58, h_r_46, h_r_47]; rfl
  have h_r_59 : kernelRun.sl.r_59 c i fp g5 g6 g7 g8 = qSq p t := by
    rw [kernelRun.sl.r_59, h_r_46, h_r_47]; rfl
  have h_r_60 : kernelRun.sl.r_60 c i fp ft g5 g6 g7 g8 g15 g16 g17 g18 = lossB p t := by
    rw [kernelRun.sl.r_60, h_r_20, h_r_44, h_r_45, h_r_48, h_r_49, h_r_53, h_r_54, h_r_55, h_r_56, h_r_57, h_r_58, h_r_59]; rfl
  have h_r_61 : kernelRun.sl.r_61 c i fp ft g0 g1 g2 g3 g5 g6 g7 g8 g10 g11 g12 g13 g14 g15 g16 g17 g18 g19 = boxA p t := by
    rw [kernelRun.sl.r_61, h_r_21, h_r_22, h_r_23, h_r_43]; rfl
  have h_r_62 : kernelRun.sl.r_62 c i fp ft g0 g1 g2 g3 g5 g6 g7 g8 g10 g11 g12 g13 g15 g16 g17 g18 g19 = boxB p t := by
    rw [kernelRun.sl.r_62, h_r_21, h_r_23]; rfl
  rw [kernelRun.sl.r_63, h_r_23, h_r_26, h_r_28, h_r_60, h_r_61, h_r_62]; rfl

/-- The one piece the body leaves in the output block is `outVal` of what it reads: nothing of it
    depends on what the scratch buffers held. -/
theorem kernelRun_eq (c : Dev nD) (i : grid0.Coords)
    (arg1 : Memref sig .tc .vmem S196x30x256 .f32) (harg1 : arg1.IsWhole)
    (arg2 : Memref sig .tc .vmem S196x30x256 .f32) (harg2 : arg2.IsWhole)
    (arg5 : Memref sig .tc .vmem S1x1 .f32) (harg5 : arg5.IsWhole)
    (x1 x2 : FVec F S196x30x256 .f32) (o : FVec F S1x1 .f32)
    (q : PosShare TreeShare) (fp : Bf (F := F) c main_v1) (ft : Bf (F := F) c main_v3)
    (g0 : Buf (Elt F) ((Memref.whole cc0_scratch0).view.loc (c : Thread nD τ)))
    (g1 : Buf (Elt F) ((Memref.whole cc0_scratch1).view.loc (c : Thread nD τ)))
    (g2 : Buf (Elt F) ((Memref.whole cc0_scratch2).view.loc (c : Thread nD τ)))
    (g3 : Buf (Elt F) ((Memref.whole cc0_scratch3).view.loc (c : Thread nD τ)))
    (g4 : Buf (Elt F) ((Memref.whole cc0_scratch4).view.loc (c : Thread nD τ)))
    (g5 : Buf (Elt F) ((Memref.whole cc0_scratch5).view.loc (c : Thread nD τ)))
    (g6 : Buf (Elt F) ((Memref.whole cc0_scratch6).view.loc (c : Thread nD τ)))
    (g7 : Buf (Elt F) ((Memref.whole cc0_scratch7).view.loc (c : Thread nD τ)))
    (g8 : Buf (Elt F) ((Memref.whole cc0_scratch8).view.loc (c : Thread nD τ)))
    (g9 : Buf (Elt F) ((Memref.whole cc0_scratch9).view.loc (c : Thread nD τ)))
    (g10 : Buf (Elt F) ((Memref.whole cc0_scratch10).view.loc (c : Thread nD τ)))
    (g11 : Buf (Elt F) ((Memref.whole cc0_scratch11).view.loc (c : Thread nD τ)))
    (g12 : Buf (Elt F) ((Memref.whole cc0_scratch12).view.loc (c : Thread nD τ)))
    (g13 : Buf (Elt F) ((Memref.whole cc0_scratch13).view.loc (c : Thread nD τ)))
    (g14 : Buf (Elt F) ((Memref.whole cc0_scratch14).view.loc (c : Thread nD τ)))
    (g15 : Buf (Elt F) ((Memref.whole cc0_scratch15).view.loc (c : Thread nD τ)))
    (g16 : Buf (Elt F) ((Memref.whole cc0_scratch16).view.loc (c : Thread nD τ)))
    (g17 : Buf (Elt F) ((Memref.whole cc0_scratch17).view.loc (c : Thread nD τ)))
    (g18 : Buf (Elt F) ((Memref.whole cc0_scratch18).view.loc (c : Thread nD τ)))
    (g19 : Buf (Elt F) ((Memref.whole cc0_scratch19).view.loc (c : Thread nD τ)))
    (plan : Transfers.BatchOf (c : Thread nD τ) (SemLoc.dma (sig := sig) 5) 20) :
    (kernelRun c i arg1 harg1 arg2 harg2 arg5 harg5 (harg1.unread x1) (harg2.unread x2) (harg5.unread o) q fp ft
      g0 g1 g2 g3 g4 g5 g6 g7 g8 g9 g10 g11 g12 g13 g14 g15 g16 g17 g18 g19 plan).1
      = [⟨Rect.unit ![0, 0] ![1, 1] inb_S1x1_S1x1_0_0, outVal i x1 x2 (slabs c i (Memref.whole main_v1) fp) (slabs c i (Memref.whole main_v3) ft) o⟩] := by
  have h := stored_eq c i arg1 arg2 arg5 (harg1.unread x1) (harg2.unread x2) (harg5.unread o) fp ft
    g0 g1 g2 g3 g4 g5 g6 g7 g8 g9 g10 g11 g12 g13 g14 g15 g16 g17 g18 g19 (slabs c i (Memref.whole main_v1) fp) (slabs c i (Memref.whole main_v3) ft)
    (loaded_eq (Memref.whole cc0_scratch0) g0 (slabOf c (Memref.whole main_v1) (k0_off1 i) (k0_off1_inb i) fp))
    (loaded_eq (Memref.whole cc0_scratch1) g1 (slabOf c (Memref.whole main_v1) (k0_off2 i) (k0_off2_inb i) fp))
    (loaded_eq (Memref.whole cc0_scratch2) g2 (slabOf c (Memref.whole main_v1) (k0_off3 i) (k0_off3_inb i) fp))
    (loaded_eq (Memref.whole cc0_scratch3) g3 (slabOf c (Memref.whole main_v1) (k0_off4 i) (k0_off4_inb i) fp))
    (loaded_eq (Memref.whole cc0_scratch5) g5 (slabOf c (Memref.whole main_v1) (k0_off6 i) (k0_off6_inb i) fp))
    (loaded_eq (Memref.whole cc0_scratch6) g6 (slabOf c (Memref.whole main_v1) (k0_off7 i) (k0_off7_inb i) fp))
    (loaded_eq (Memref.whole cc0_scratch7) g7 (slabOf c (Memref.whole main_v1) (k0_off8 i) (k0_off8_inb i) fp))
    (loaded_eq (Memref.whole cc0_scratch8) g8 (slabOf c (Memref.whole main_v1) (k0_off9 i) (k0_off9_inb i) fp))
    (loaded_eq (Memref.whole cc0_scratch4) g4 (slabOf c (Memref.whole main_v1) (k0_off5 i) (k0_off5_inb i) fp))
    (loaded_eq (Memref.whole cc0_scratch9) g9 (slabOf c (Memref.whole main_v1) (k0_off10 i) (k0_off10_inb i) fp))
    (loaded_eq (Memref.whole cc0_scratch10) g10 (slabOf c (Memref.whole main_v3) (k0_off1 i) (k0_off1_inb i) ft))
    (loaded_eq (Memref.whole cc0_scratch11) g11 (slabOf c (Memref.whole main_v3) (k0_off2 i) (k0_off2_inb i) ft))
    (loaded_eq (Memref.whole cc0_scratch12) g12 (slabOf c (Memref.whole main_v3) (k0_off3 i) (k0_off3_inb i) ft))
    (loaded_eq (Memref.whole cc0_scratch13) g13 (slabOf c (Memref.whole main_v3) (k0_off4 i) (k0_off4_inb i) ft))
    (loaded_eq (Memref.whole cc0_scratch15) g15 (slabOf c (Memref.whole main_v3) (k0_off6 i) (k0_off6_inb i) ft))
    (loaded_eq (Memref.whole cc0_scratch16) g16 (slabOf c (Memref.whole main_v3) (k0_off7 i) (k0_off7_inb i) ft))
    (loaded_eq (Memref.whole cc0_scratch17) g17 (slabOf c (Memref.whole main_v3) (k0_off8 i) (k0_off8_inb i) ft))
    (loaded_eq (Memref.whole cc0_scratch18) g18 (slabOf c (Memref.whole main_v3) (k0_off9 i) (k0_off9_inb i) ft))
    (loaded_eq (Memref.whole cc0_scratch14) g14 (slabOf c (Memref.whole main_v3) (k0_off5 i) (k0_off5_inb i) ft))
    (loaded_eq (Memref.whole cc0_scratch19) g19 (slabOf c (Memref.whole main_v3) (k0_off10 i) (k0_off10_inb i) ft))
  rw [load_block, load_block, load_out] at h
  unfold kernelRun
  dsimp only
  rw [h]

end Cert.KernelIdeal.Hand

end
-- ==== Proof.RunIdeal.lean ====
/-
  The launch: what the accumulating region leaves, and the run of the whole program.
-/
module

public import proofs.«01_k».proof.Proof.OutIdeal
public import proofs.«01_k».proof.Proof.Gen.KernelIdeal.Frame
public import Idealize.ShloMosaic.Lib.Pipeline.Regions

@[expose] public section

set_option maxRecDepth 16384

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The running sum -/

/-- Grid point `t`'s new running sum from the old one `o`: the body's value on the point's two blocks and on the slabs of
    the two arrays the region copies by itself. -/
def stepVal (c : Dev nD) (t : Fin cfg0.N) (o : FVec F S1x1 .f32) : FVec F S1x1 .f32 :=
  outVal (grid0.coords t) (iblk m c 0 t) (iblk m c 1 t)
    (slabs c (grid0.coords t) (Memref.whole main_v1) (V m c main_v1)) (slabs c (grid0.coords t) (Memref.whole main_v3) (V m c main_v3)) o

/-- The running sum after `n` grid points. -/
def accAfter (c : Dev nD) : ℕ → FVec F S1x1 .f32
  | 0 => fun _ => FloatOps.ofBits .f32 0#32
  | n + 1 => if h : n < cfg0.N then stepVal m c ⟨n, h⟩ (accAfter c n) else accAfter c n

/-- The first point's value does not depend on what the result's buffer held before. -/
theorem stepVal_first (c : Dev nD) (t : Fin cfg0.N) (ht : t.val = 0) (o o' : FVec F S1x1 .f32) :
    stepVal m c t o = stepVal m c t o' := by
  have h0 : t = t0_0 := Fin.ext ht
  subst h0
  unfold stepVal outVal
  rfl

/-- The running sum after point `t`, from the one before it. -/
theorem accAfter_succ (c : Dev nD) (t : Fin cfg0.N) :
    accAfter m c (t.val + 1) = stepVal m c t (accAfter m c t.val) := by
  show (if h : t.val < cfg0.N then _ else _) = _
  rw [dif_pos t.isLt]

/-! ## The pipeline's proof data -/

/-- An array held at half its share beside the pipeline: what the body's own copies read. -/
abbrev halfOf (c : Dev nD) (b : Ref sig .tc) (f : Buf (Elt F) ((Memref.whole b).view.loc (c : Thread nD τ))) : sProp 𝕄 :=
  iprop((Memref.whole b).view.loc (c : Thread nD τ) ↦{fullShare.right} f)

/-- The invariant between grid points: the scratch buffers at anything, the copies' counter at zero, and half of each
    of the two arrays the body copies from. -/
def inv (c : Dev nD) : sProp 𝕄 :=
  iprop(Pipeline.scopedRest (Ix := Unit) (Name := ℕ) (U := Pipeline.UD sig nD τ) (Lvl := ℕ) (Val := Elt F) spec0 c
    ∗ semVal ((c : Thread nD τ), SemLoc.dma 5) 0
    ∗ halfOf c main_v1 (V m c main_v1) ∗ halfOf c main_v3 (V m c main_v3))

/-- The proof data on core `c`: the blocks stay in place, the result's buffer holds the running sum. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => accAfter m c (t.val + 1)
  Φ _ := inv m c
  q _ := fullShare.left
  owed _ := 0

/-- What an array holds when the region starts. -/
theorem A_eq (c : Dev nD) (w : Fin cfg0.W) : (dats m 0 c).A w = V m c (Pipeline.arrRef spec0 w) := by
  dsimp only [dats]
/-- The predictions' staged block after a point. -/
theorem after_0 (c : Dev nD) (t : Fin cfg0.N) : (dats m 0 c).after 0 t = iblk m c 0 t := by dsimp only [dats]
/-- The targets' staged block after a point. -/
theorem after_1 (c : Dev nD) (t : Fin cfg0.N) : (dats m 0 c).after 1 t = iblk m c 1 t := by dsimp only [dats]
/-- The result's staged cell after a point: the running sum. -/
theorem after_2 (c : Dev nD) (t : Fin cfg0.N) : (dats m 0 c).after 2 t = accAfter m c (t.val + 1) := by dsimp only [dats]

/-- The predictions' staged block before a point. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]) t d).trans
    (by unfold Dat.fetched Dat.blockOf iblk; rw [A_eq]; rfl)
/-- The targets' staged block before a point. -/
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]) t d).trans
    (by unfold Dat.fetched Dat.blockOf iblk; rw [A_eq]; rfl)
/-- After the first point the result's buffer holds the running sum so far. -/
theorem before_2 (c : Dev nD) (t : Fin cfg0.N) (ht : t.val ≠ 0) (d) : (dats m 0 c).before 2 t d = accAfter m c t.val := by
  have hN := N_0
  have hlt := t.isLt
  rw [(dats m 0 c).before_of_pos 2 t ht rfl d, if_neg (by
    rw [flush0_2]; show ¬ (t.val - 1) % 4 = 3
    have : t.val < 4 := by rw [← hN]; exact hlt
    omega)]
  have h : accAfter m c t.val = accAfter m c (t.val - 1 + 1) := by rw [Nat.sub_add_cancel (Nat.one_le_iff_ne_zero.mpr ht)]
  rw [h]
  rfl
/-- Whatever the result's buffer held before point `t`, the point's value is the next running sum. -/
theorem stepVal_before (c : Dev nD) (t : Fin cfg0.N) (d) :
    stepVal m c t ((dats m 0 c).before 2 t d) = accAfter m c (t.val + 1) := by
  rw [accAfter_succ]
  by_cases ht : t.val = 0
  · exact stepVal_first m c t ht _ _
  · rw [before_2 m c t ht]

/-! ## The body at a point -/

/-- The predictions' staging buffer at a point. -/
abbrev ms0 (t : Fin cfg0.N) : Memref sig .tc .vmem S196x30x256 .f32 := win0_0.stage (cfg0.slots t 0)
/-- The targets' staging buffer at a point. -/
abbrev ms1 (t : Fin cfg0.N) : Memref sig .tc .vmem S196x30x256 .f32 := win0_1.stage (cfg0.slots t 1)
/-- The result's staging buffer at a point. -/
abbrev ms2 (t : Fin cfg0.N) : Memref sig .tc .vmem S1x1 .f32 := win0_2.stage (cfg0.slots t 2)

/-- What the body finds at a point. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))
/-- What the body leaves at a point. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t))

/-- One write over the whole of a one-element result is what it then reads. -/
theorem read_result {sp : Space} (v : View sig .tc sp S1x1 .f32) (f : v.ty.Contents (Elt F)) (X : FVec F S1x1 .f32) :
    v.read (Elt F) (v.writes (Elt F) f [⟨Rect.unit ![0, 0] ![1, 1] inb_S1x1_S1x1_0_0, X⟩]) = X := by
  rw [View.read_writes_eq_canon v f _ (View.cover_of_tiledL _ ![1, 1] (by sl_kernel_rfl))]
  exact View.canon_cons_unit_zero (by decide) _ _ _

/-- The same for a list of writes known to be that one. -/
theorem read_result_of {sp : Space} (v : View sig .tc sp S1x1 .f32) (f : v.ty.Contents (Elt F)) {L : List (View.Piece (Elt F) S1x1 .f32)} {X : FVec F S1x1 .f32}
    (h : L = [⟨Rect.unit ![0, 0] ![1, 1] inb_S1x1_S1x1_0_0, X⟩]) : v.read (Elt F) (v.writes (Elt F) f L) = X := by
  subst h; exact read_result v f X

set_option maxHeartbeats 2000000 in
/-- The body at point `t`: from its two blocks and whatever the result's buffer holds, to the next running sum. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = inv m c from rfl, show (dats m 0 c).Φ t.castSucc = inv m c from rfl, after_0, after_1, after_2]
  unfold Dat.owesAt Pipeline.owesWithin
  rw [show (dats m 0 c).owed t.castSucc = 0 from rfl, show (dats m 0 c).owed t.succ = 0 from rfl]
  unfold inv owns
  rw [scratch_eq]
  iintro ⟨⟨⟨⟨%g0, Hs0⟩, ⟨%g1, Hs1⟩, ⟨%g2, Hs2⟩, ⟨%g3, Hs3⟩, ⟨%g4, Hs4⟩, ⟨%g5, Hs5⟩, ⟨%g6, Hs6⟩, ⟨%g7, Hs7⟩, ⟨%g8, Hs8⟩, ⟨%g9, Hs9⟩, ⟨%g10, Hs10⟩, ⟨%g11, Hs11⟩, ⟨%g12, Hs12⟩, ⟨%g13, Hs13⟩, ⟨%g14, Hs14⟩, ⟨%g15, Hs15⟩, ⟨%g16, Hs16⟩, ⟨%g17, Hs17⟩, ⟨%g18, Hs18⟩, ⟨%g19, Hs19⟩⟩, Hq, Hp, Ht⟩, ⟨%W, -, HW⟩, ⟨%d0, %f0, %h0, H0⟩, ⟨%d1, %f1, %h1, H1⟩, ⟨%d2, %f2, %h2, H2⟩⟩
  rw [before_0] at h0
  rw [before_1] at h1
  obtain rfl := (hstage0_0 ((cfg0.slots t 0).cast nbuf0_0)).eq_unread h0
  obtain rfl := (hstage0_1 ((cfg0.slots t 1).cast nbuf0_1)).eq_unread h1
  obtain rfl := (hstage0_2 ((cfg0.slots t 2).cast nbuf0_2)).eq_unread h2
  ihave Hp := (Transfers.pointsTo_toks_split fullShare.right 10) $$ Hp
  ihave Ht := (Transfers.pointsTo_toks_split fullShare.right 10) $$ Ht
  icases Hp with ⟨Hpd, Hp⟩
  icases Ht with ⟨Htd, Ht⟩
  iapply ((kernelRun c (grid0.coords t) (ms0 t) (hstage0_0 ((cfg0.slots t 0).cast nbuf0_0)) (ms1 t) (hstage0_1 ((cfg0.slots t 1).cast nbuf0_1))
    (ms2 t) (hstage0_2 ((cfg0.slots t 2).cast nbuf0_2)) _ _ _ fullShare.right (V m c main_v1) (V m c main_v3)
    g0 g1 g2 g3 g4 g5 g6 g7 g8 g9 g10 g11 g12 g13 g14 g15 g16 g17 g18 g19 trivial).2 W _)
  isplitl [H0]; · iexact H0
  isplitl [H1]; · iexact H1
  isplitl [H2]; · iexact H2
  isplitl [Hp]; · iexact Hp
  isplitl [Ht]; · iexact Ht
  isplitl [Hs0 Hs1 Hs2 Hs3 Hs4 Hs5 Hs6 Hs7 Hs8 Hs9 Hs10 Hs11 Hs12 Hs13 Hs14 Hs15 Hs16 Hs17 Hs18 Hs19]
  · unfold heldAt
    isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    isplitl [Hs10]; · iexact Hs10
    isplitl [Hs11]; · iexact Hs11
    isplitl [Hs12]; · iexact Hs12
    isplitl [Hs13]; · iexact Hs13
    isplitl [Hs14]; · iexact Hs14
    isplitl [Hs15]; · iexact Hs15
    isplitl [Hs16]; · iexact Hs16
    isplitl [Hs17]; · iexact Hs17
    isplitl [Hs18]; · iexact Hs18
    iexact Hs19
  isplitl [Hq]; · iexact Hq
  isplitl [HW]; · iexact HW
  iintro ⟨H0, H1, ⟨%f, H2⟩, Hp, Ht, Hs, Hq, ⟨%W', HW⟩⟩
  ihave Hs := (Entails.of_eq (scratch_eq c)) $$ Hs
  ihave Hp := (Transfers.pointsTo_toks_join fullShare.right 10) $$ [Hpd Hp]
  · isplitl [Hpd]; · iexact Hpd
    iexact Hp
  ihave Ht := (Transfers.pointsTo_toks_join fullShare.right 10) $$ [Htd Ht]
  · isplitl [Htd]; · iexact Htd
    iexact Ht
  isplitl [Hs Hq Hp Ht]
  · isplitl [Hs]; · iexact Hs
    isplitl [Hq]; · iexact Hq
    isplitl [Hp]; · iexact Hp
    iexact Ht
  isplitl [HW]
  · iexists W'; isplitr; · ipureintro; exact fun _ _ => Or.inl trivial
    iexact HW
  isplitl [H0]
  · iexists _; isplitr; swap; (· iexact H0); ipureintro; exact Memref.IsWhole.read_unread _ _
  isplitl [H1]
  · iexists _; isplitr; swap; (· iexact H1); ipureintro; exact Memref.IsWhole.read_unread _ _
  iexists _; isplitr; swap; (· iexact H2)
  ipureintro
  exact (read_result_of _ _ (kernelRun_eq c (grid0.coords t) (ms0 t) (hstage0_0 ((cfg0.slots t 0).cast nbuf0_0)) (ms1 t) (hstage0_1 ((cfg0.slots t 1).cast nbuf0_1))
    (ms2 t) (hstage0_2 ((cfg0.slots t 2).cast nbuf0_2)) _ _ _ fullShare.right (V m c main_v1) (V m c main_v3)
    g0 g1 g2 g3 g4 g5 g6 g7 g8 g9 g10 g11 g12 g13 g14 g15 g16 g17 g18 g19 trivial)).trans (stepVal_before m c t d2)

/-- The pipeline's call at a point is the printed body. -/
theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

end Cert.KernelIdeal.Hand

end
-- ==== Proof.MainIdeal.lean ====
/-
  The whole program: host operations, the region, the last host operation.
-/
module

public import proofs.«01_k».proof.Proof.RunIdeal

@[expose] public section

set_option maxRecDepth 16384

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The pipeline's bookkeeping algebra inside the program's. -/
abbrev EP : Emb (UR sig nD τ) 𝕄 := embL

/-- The launch's ghost element: the pipeline's own, no transfer yet. -/
def u₀ : Pipeline.UD sig nD τ := (initOf (Pipeline.cells cfgs cellOf_inj) (Pipeline.launchToks cfgs cellOf_inj), 1)

/-- The body's one semaphore, on which its copies count. -/
abbrev osem : Fin 1 → SemLoc sig := fun _ => SemLoc.dma 5
/-- The body's semaphore is its own. -/
theorem ownSemFacts : Pipeline.OwnSemFacts spec0 osem := by decide
/-- The body's semaphore, its counter at zero. -/
theorem ownSems0_eq (c : Dev nD) :
    (Pipeline.ownSems0 (Ix := Unit) (Name := ℕ) (U := Pipeline.UD sig nD τ) (Lvl := ℕ) (Val := Elt F) (τ := τ) osem c : sProp 𝕄)
      = semVal ((c : Thread nD τ), SemLoc.dma 5) 0 := by
  rw [Pipeline.ownSems0_eq_of_list c osem [0] (by decide) (by decide)]; rfl

/-- No signal is promised to a counter. -/
abbrev L : GSem nD τ sig → Finset Unit := fun _ => ∅
/-- Every level is zero. -/
abbrev lv : GSem nD τ sig → Unit → ℕ := fun _ _ => 0
/-- The region is admissible. -/
abbrev adm : (p : Fin 1) → (pcfgs (F := F) p).Adm := fun p => (cfgs p).toPCfg_adm

/-- Core `c`'s buffers at launch. -/
abbrev Vl (c : Dev nD) : Valuation τ sig (Elt F) := fun b => m (c, b)

/-- The buffers when the region starts: the host operations before it, applied. -/
theorem V0_eq (c : Dev nD) : V0 m c = StableHlo.after hostOps0 (Vl m c) := by
  show StableHlo.after (List.flatten [hostOps0]) _ = _
  rw [List.flatten_cons, List.flatten_nil, List.append_nil]

/-- The one-element array the region leaves. -/
def sumArr (c : Dev nD) : Buf (Elt F) ((c : Thread nD τ).loc main_v4) := (dats m 0 c).arrAt 2 cfg0.N

/-- Core `c`'s buffers when the last host operation runs: the region's array replaced by what the region left. -/
def Vr (c : Dev nD) : Valuation τ sig (Elt F) := Function.update (V0 m c) (Proc.devRef .tc main_v4) (sumArr m c)

/-- The buffers the last host operation uses. -/
def tailRefs : Finset (DevRef τ sig) := {Proc.devRef .tc main_v4, Proc.devRef .tc main_v5}

/-- The region's array when the last host operation runs. -/
theorem Vr_v4 (c : Dev nD) : Vr m c (Proc.devRef .tc main_v4) = sumArr m c := Function.update_self ..
/-- The last host operation's result buffer is untouched until it runs. -/
theorem Vr_v5 (c : Dev nD) : Vr m c (Proc.devRef .tc main_v5) = V m c main_v5 :=
  Function.update_of_ne (StableHlo.devRef_ne_of_ne (by decide)) ..

/-- The two buffers the last host operation uses, one by one. -/
theorem held_tail (c : Dev nD) (W : Valuation τ sig (Elt F)) :
    (StableHlo.held (c : Thread nD τ) tailRefs W : sProp 𝕄)
      = iprop((((c : Thread nD τ).loc main_v4) ↦{fullShare} W (Proc.devRef .tc main_v4)) ∗ (((c : Thread nD τ).loc main_v5) ↦{fullShare} W (Proc.devRef .tc main_v5))) := by
  unfold StableHlo.held
  rw [BI.bigSep_eq_bigSepL_of_eq [Proc.devRef .tc main_v4, Proc.devRef .tc main_v5] (by decide) (by decide)]
  rfl

/-- What a core carries beside its buffers: it owes nothing. -/
abbrev R (c : Dev nD) : sProp 𝕄 := iprop(∃ W, owes (c : Thread nD τ) (0 : CellTallies nD τ sig Unit) W)

/-- The two arguments, whole, as the host operations left them. -/
abbrev args (c : Dev nD) : sProp 𝕄 :=
  iprop((((c : Thread nD τ).loc main_arg0) ↦{fullShare} V m c main_arg0) ∗ (((c : Thread nD τ).loc main_arg1) ↦{fullShare} V m c main_arg1))

/-- The host operations before the region. -/
def seg0 : Pipeline.HostSeg (Name := ℕ) (U := Pipeline.UD sig nD τ) (pcfgs (F := F)) defs₀ Variants.none L lv :=
  Pipeline.HostSeg.ofOps _ _ _ _ _ (Pipeline.ucRefs τ sig) hostOps0 (fun op h => Pipeline.sub_ucRefs op ((List.forall_iff_forall_mem.mp hostOps0_sub) op h))
    (List.forall_iff_forall_mem.mp hostOps0_fresh) (Vl m) R

/-- The host operation after it. -/
def seg1 : Pipeline.HostSeg (Name := ℕ) (U := Pipeline.UD sig nD τ) (pcfgs (F := F)) defs₀ Variants.none L lv :=
  Pipeline.HostSeg.ofOps _ _ _ _ _ tailRefs hostOps1 (by
      intro op h
      simp only [List.mem_cons, List.mem_nil_iff, or_false] at h
      subst h
      exact Finset.Subset.refl _)
    (List.forall_iff_forall_mem.mp hostOps1_fresh) (Vr m) (fun c => iprop(args m c ∗ R c))

/-- The unscoped buffers, listed. -/
theorem unscoped_eq (c : Dev nD) (W : (b : Ref sig .tc) → Buf (Elt F) ((c : Thread nD τ).loc b)) :
    (unscopedBufs c W : sProp 𝕄) = iprop((((c : Thread nD τ).loc main_arg0) ↦{fullShare} W main_arg0) ∗ (((c : Thread nD τ).loc main_arg1) ↦{fullShare} W main_arg1)
      ∗ (((c : Thread nD τ).loc main_v0) ↦{fullShare} W main_v0) ∗ (((c : Thread nD τ).loc main_v1) ↦{fullShare} W main_v1)
      ∗ (((c : Thread nD τ).loc main_v2) ↦{fullShare} W main_v2) ∗ (((c : Thread nD τ).loc main_v3) ↦{fullShare} W main_v3)
      ∗ (((c : Thread nD τ).loc main_v4) ↦{fullShare} W main_v4) ∗ (((c : Thread nD τ).loc main_v5) ↦{fullShare} W main_v5)) := by
  unfold unscopedBufs
  rw [BI.bigSep_eq_bigSepL_of_eq [main_arg0, main_arg1, main_v0, main_v1, main_v2, main_v3, main_v4, main_v5] (by decide) (by decide)]
  rfl

/-- The windows' arrays: half of each input, the whole of the result. -/
theorem arrays_eq (c : Dev nD) (G : (w : Fin cfg0.W) → Buf (Elt F) ((cfg0.spec w).arr.view.loc (c : Thread nD τ))) :
    ((dats m 0 c).arrays G : sProp 𝕄) = iprop((((c : Thread nD τ).loc main_v1) ↦{fullShare.left} G 0) ∗ (((c : Thread nD τ).loc main_v3) ↦{fullShare.left} G 1)
      ∗ (((c : Thread nD τ).loc main_v4) ↦{fullShare} G 2)) := by
  rw [(dats m 0 c).arrays_arrShares launch0.arr_whole]
  unfold Pipeline.arrShares
  rw [bigSep_W0]
  rfl

set_option backward.isDefEq.respectTransparency.types false in
set_option maxHeartbeats 1000000 in
/-- The region: the input arrays shared between the pipeline and the body's own copies. -/
def reg0 : Pipeline.RegionSeg (pcfgs (F := F)) adm (dats m) () defs₀ Variants.none L lv 0 where
  win := launch0.win.to₀
  block_pos := launch0.block_pos
  stage_whole := launch0.stage_whole
  K := Fin 1
  osem := osem
  ho := ownSemFacts
  hbody c := (body_obligation m c).loose
  hwaits := Pipeline.hwaits_of_owed_zero _ _ _ _ L lv 0 fun _ _ => rfl
  pre c := iprop(StableHlo.held (c : Thread nD τ) (Pipeline.ucRefs τ sig) (StableHlo.after hostOps0 (Vl m c)) ∗ R c)
  post c := iprop(StableHlo.held (c : Thread nD τ) tailRefs (Vr m c) ∗ args m c ∗ R c)
  X c := iprop(semVal ((c : Thread nD τ), SemLoc.dma 5) 0 ∗ halfOf c main_v1 (V m c main_v1) ∗ halfOf c main_v3 (V m c main_v3))
  Y _ := iprop(emp)
  Z c := iprop(args m c ∗ (((c : Thread nD τ).loc main_v5) ↦{fullShare} V m c main_v5))
  hentry c := by
    rw [← V0_eq, show StableHlo.held (c : Thread nD τ) (Pipeline.ucRefs τ sig) (V0 m c) = unscopedBufs c (V m c) from (Pipeline.unscopedBufs_held c _).symm,
      ownSems0_eq, unscoped_eq]
    rw [show (dats m 0 c).arrays ((dats m 0 c).arrAt · 0) = (dats m 0 c).arrays (dats m 0 c).A from rfl, arrays_eq, A_eq, A_eq, A_eq]
    iintro ⟨⟨⟨Ha0, Ha1, -, H1, -, H3, H4, H5⟩, HO⟩, Hos, -⟩
    ihave H1 := (pointsTo_share (PosShare.mem_left_op_right fullShare)).1 $$ H1
    icases H1 with ⟨H1l, H1r⟩
    ihave H3 := (pointsTo_share (PosShare.mem_left_op_right fullShare)).1 $$ H3
    icases H3 with ⟨H3l, H3r⟩
    imodintro
    isplitl [H1l H3l H4]
    · isplitl [H1l]; · iexact H1l
      isplitl [H3l]; · iexact H3l
      iexact H4
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hos H1r H3r]
    · isplitl [Hos]; · iexact Hos
      isplitl [H1r]; · iexact H1r
      iexact H3r
    isplitr [H5]
    · isplitl [Ha0]; · iexact Ha0
      iexact Ha1
    iexact H5
  hin c := by
    rw [show (dats m 0 c).Φ 0 = inv m c from rfl]; unfold inv
    iintro ⟨⟨Hos, H1, H3⟩, -, Hr⟩
    isplitl [Hr]; · iexact Hr
    isplitl [Hos]; · iexact Hos
    isplitl [H1]; · iexact H1
    iexact H3
  hout c := by
    rw [ownSems0_eq, show (dats m 0 c).Φ (Fin.last cfg0.N) = inv m c from rfl]; unfold inv
    iintro ⟨Hr, Hos, -, -⟩
    isplitr; · iempintro
    isplitl [Hos]; · iexact Hos
    iexact Hr
  hexit c := by
    rw [show (dats m 0 c).arrays ((dats m 0 c).arrAt · (Pipeline.pin (pcfgs (F := F)) adm 0).N) = (dats m 0 c).arrays ((dats m 0 c).arrAt · cfg0.N) from rfl,
      arrays_eq, held_tail, Vr_v4, Vr_v5]
    iintro ⟨⟨-, -, H4⟩, HO, -, ⟨Ha, H5⟩⟩
    imodintro
    isplitl [H4 H5]
    · isplitl [H4]; · iexact H4
      iexact H5
    isplitl [Ha]; · iexact Ha
    unfold Pipeline.Dat.owesAt Pipeline.owesWithin
    icases HO with ⟨%W, -, HO⟩; iexists W; iexact HO

/-- @main as the list of the three. -/
abbrev segs : List (Pipeline.Seg (pcfgs (F := F)) adm (dats m) () defs₀ Variants.none L lv) := [.host (seg0 m), .region (reg0 m), .host (seg1 m)]

/-- The program's result: the region's one element as a scalar. -/
def result (c : Dev nD) : Buf (Elt F) ((c : Thread nD τ).loc main_v5) := StableHlo.after hostOps1 (Vr m c) (Proc.devRef .tc main_v5)

set_option backward.isDefEq.respectTransparency.types false in
set_option maxHeartbeats 1000000 in
/-- Every run ends with the arguments as they were, the result at `result` and every counter at zero. -/
theorem run_main : θ_run defs (onTc (τ := τ) (main (F := F))) (s₀ m ρ) (fun r =>
    (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_v5) = result m c) ∧ r.2.sem = fun _ => 0) :=
  Pipeline.θ_run_regions_kit_sems (pcfgs (F := F)) adm (dats m) () cellOf_inj EP defs₀ Variants.none L lv m ρ main (segs m)
    (fun c Q => by rw [main_segs adm (dats m) () Variants.none L lv (seg0 m) (seg1 m) (reg0 m) rfl rfl c])
    (by simp only [Pipeline.Seg.pipes_host, Pipeline.Seg.pipes_region, Pipeline.Seg.pipes_nil]; decide) (O₀ := 0) (hL := fun _ _ => rfl) (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Vl m c) ∗ R c))
    (Tₙ := fun c => iprop((((c : Thread nD τ).loc main_v5) ↦{fullShare} result m c) ∗ args m c))
    (hch := ⟨fun _ => .rfl, fun _ => .rfl, fun _ => .rfl, fun c => by
      show iprop(StableHlo.held (c : Thread nD τ) tailRefs (StableHlo.after hostOps1 (Vr m c)) ∗ args m c ∗ R c) ⊢ _
      rw [held_tail]
      iintro ⟨⟨-, H5⟩, Ha, HO⟩
      isplitr [HO]
      · isplitl [H5]; · iexact H5
        iexact Ha
      iexact HO⟩)
    (hinit := by
      refine Pipeline.initEach L lv fun c => ?_
      rw [show unscopedBufs c (fun b => m ((c : Thread nD τ).loc b)) = StableHlo.held (c : Thread nD τ) (Pipeline.ucRefs τ sig) (Vl m c) from Pipeline.unscopedBufs_held c (Vl m c)]
      iintro ⟨⟨Hh, -, HO, -, -, -⟩, -⟩
      imodintro
      isplitl [Hh]; · iexact Hh
      iexists ∅; iexact HO)
    (QY := fun c s => s.mem ((c : Thread nD τ).loc main_arg0) = m ((c : Thread nD τ).loc main_arg0)
      ∧ s.mem ((c : Thread nD τ).loc main_arg1) = m ((c : Thread nD τ).loc main_arg1)
      ∧ s.mem ((c : Thread nD τ).loc main_v5) = result m c)
    (hfin := fun c s' => by
      dsimp only [args]; rw [V_main_arg0, V_main_arg1]
      iintro ⟨⟨H5, H0, H1⟩, HSI⟩
      icombine HSI H0 gives %h0
      icombine HSI H1 gives %h1
      icombine HSI H5 gives %h5
      imodintro
      isplitr; · ipureintro; exact ⟨Buf.eq_of_forall_mem_univ h0, Buf.eq_of_forall_mem_univ h1, Buf.eq_of_forall_mem_univ h5⟩
      iexact HSI)
    (hQ := fun _ h hz => ⟨h, funext fun g => hz g (.inr (by revert g; decide))⟩)

end Cert.KernelIdeal.Hand

end
-- ==== Proof.Spec.lean ====
/-
  The loss of one cell, over the extended reals: what both programs add up.
-/
module

public import Idealize.ShloMosaic.Lib.Pointwise

@[expose] public section

noncomputable section

namespace Cert.Spec

open Idealize.ShloMosaic

/-- The extended real that an f32 word denotes. -/
abbrev k (b : BitVec 32) : EReal := Ideal.ofBits .f32 b

/-- A box by its two corners. -/
structure Box where
  x1 : EReal
  y1 : EReal
  x2 : EReal
  y2 : EReal

/-- The box of a cell's four channels `x y w h`, in the cell of column `i` and row `j`. -/
def boxOf (x y w h i j : EReal) : Box where
  x1 := (x + i) * k 0x3D924925#32 - Ideal.div w (k 0x40000000#32)
  y1 := (y + j) * k 0x3D924925#32 - Ideal.div h (k 0x40000000#32)
  x2 := (x + i) * k 0x3D924925#32 + Ideal.div w (k 0x40000000#32)
  y2 := (y + j) * k 0x3D924925#32 + Ideal.div h (k 0x40000000#32)

/-- The area two boxes share. -/
def inter (a b : Box) : EReal :=
  max (min a.x2 b.x2 - max a.x1 b.x1) (k 0x00000000#32) * max (min a.y2 b.y2 - max a.y1 b.y1) (k 0x00000000#32)

/-- Intersection over union. -/
def iou (a b : Box) : EReal :=
  Ideal.div (inter a b) ((a.x2 - a.x1) * (a.y2 - a.y1) + (b.x2 - b.x1) * (b.y2 - b.y1) - inter a b + k 0x358637BD#32)

/-- A side's length, kept from zero. -/
def side (lo hi : EReal) : EReal := max (hi - lo) (k 0x358637BD#32)

/-- The arctangent as the kernel computes it: one reduced argument, one polynomial. -/
def atanReduced (x : EReal) : EReal :=
  let y := Scalar.select (Ideal.cmp .ogt x (k 0x401A827A#32)) (k 0x3FC90FDB#32)
    (Scalar.select (Ideal.cmp .ogt x (k 0x3ED413CD#32)) (k 0x3F490FDB#32) (k 0x00000000#32))
  let u := Scalar.select (Ideal.cmp .ogt x (k 0x401A827A#32)) (Ideal.div (k 0xBF800000#32) x)
    (Scalar.select (Ideal.cmp .ogt x (k 0x3ED413CD#32)) (Ideal.div (x - k 0x3F800000#32) (x + k 0x3F800000#32)) x)
  y + ((((k 0x3DA4F0D1#32 * (u * u) - k 0x3E0E1B85#32) * (u * u) + k 0x3E4C925F#32) * (u * u) - k 0x3EAAAA2A#32) * (u * u) * u + u)

/-- The odd polynomial of degree nine in the reference's own form. -/
def oddSeries (u : EReal) : EReal :=
  u - k 0x3EAAAA2A#32 * (u * (u * u)) + k 0x3E4C925F#32 * (u * (u * u) * (u * u)) - k 0x3E0E1B85#32 * (u * (u * u) * (u * u) * (u * u))
    + k 0x3DA4F0D1#32 * (u * (u * u) * (u * u) * (u * u) * (u * u))

/-- The arctangent as the reference computes it: three ranges of the argument. -/
def atanRanges (x : EReal) : EReal :=
  Scalar.select (Ideal.cmp .ogt x (k 0x401A827A#32)) (k 0x3FC90FDB#32 - oddSeries (Ideal.div (k 0x3F800000#32) x))
    (Scalar.select (Ideal.cmp .ogt x (k 0x3ED413CD#32))
      (k 0x3F490FDB#32 + oddSeries (Ideal.div (x - k 0x3F800000#32) (x + k 0x3F800000#32))) (oddSeries x))

/-- The squared distance of two boxes' centres. -/
def centres (a b : Box) : EReal :=
  (Ideal.div (a.x1 + a.x2) (k 0x40000000#32) - Ideal.div (b.x1 + b.x2) (k 0x40000000#32))
      * (Ideal.div (a.x1 + a.x2) (k 0x40000000#32) - Ideal.div (b.x1 + b.x2) (k 0x40000000#32))
    + (Ideal.div (a.y1 + a.y2) (k 0x40000000#32) - Ideal.div (b.y1 + b.y2) (k 0x40000000#32))
      * (Ideal.div (a.y1 + a.y2) (k 0x40000000#32) - Ideal.div (b.y1 + b.y2) (k 0x40000000#32))

/-- The squared diagonal of the least box around two. -/
def diagonal (a b : Box) : EReal :=
  (max a.x2 b.x2 - min a.x1 b.x1) * (max a.x2 b.x2 - min a.x1 b.x1)
    + (max a.y2 b.y2 - min a.y1 b.y1) * (max a.y2 b.y2 - min a.y1 b.y1) + k 0x358637BD#32

/-- The aspect term, by the arctangent `f`. -/
def aspect (f : EReal → EReal) (a b : Box) : EReal :=
  k 0x3ECF817B#32
    * ((f (Ideal.div (side b.x1 b.x2) (side b.y1 b.y2)) - f (Ideal.div (side a.x1 a.x2) (side a.y1 a.y2)))
      * (f (Ideal.div (side b.x1 b.x2) (side b.y1 b.y2)) - f (Ideal.div (side a.x1 a.x2) (side a.y1 a.y2))))

/-- The loss of a predicted box `a` against its target `b`, by the arctangent `f`. -/
def loss (f : EReal → EReal) (a b : Box) : EReal :=
  (k 0x3F800000#32 - (iou a b - Ideal.div (centres a b) (diagonal a b)
      - Ideal.div (aspect f a b) (k 0x3F800000#32 - iou a b + aspect f a b + k 0x358637BD#32) * aspect f a b))
    * max (k 0x40000000#32 - side b.x1 b.x2 * side b.y1 b.y2) (k 0x3F800000#32)

/-- The first box of a cell's ten channels. -/
def boxA (p : Fin 10 → EReal) (i j : EReal) : Box := boxOf (p 0) (p 1) (p 2) (p 3) i j
/-- The second box of a cell's ten channels. -/
def boxB (p : Fin 10 → EReal) (i j : EReal) : Box := boxOf (p 5) (p 6) (p 7) (p 8) i j

/-- Whether a confidence says an object is there. -/
def obj (t : EReal) : BitVec 1 := Ideal.cmp .ogt t (k 0x00000000#32)

/-- Whether the first box overlaps its target at least as much as the second does. -/
def first (p t : Fin 10 → EReal) (i j : EReal) : BitVec 1 :=
  Ideal.cmp .oge (iou (boxA p i j) (boxA t i j)) (iou (boxB p i j) (boxB t i j))

/-- A squared difference. -/
def sq (p t : EReal) : EReal := (p - t) * (p - t)

/-- The confidence error of the boxes answering for an object, as the kernel selects them. -/
def objCell (p t : Fin 10 → EReal) (i j : EReal) : EReal :=
  Scalar.select (IntOp.andi (obj (t 4)) (IntOp.ori (IntOp.xori (obj (t 9)) 1#1) (first p t i j))) (sq (p 4) (t 4)) (k 0x00000000#32)
    + Scalar.select (IntOp.andi (obj (t 9)) (IntOp.xori (first p t i j) 1#1)) (sq (p 9) (t 9)) (k 0x00000000#32)

/-- The confidence error of both boxes. -/
def allCell (p t : Fin 10 → EReal) : EReal := sq (p 4) (t 4) + sq (p 9) (t 9)

/-- The box loss of the boxes answering for an object, as the kernel selects them. -/
def boxCell (f : EReal → EReal) (p t : Fin 10 → EReal) (i j : EReal) : EReal :=
  Scalar.select (IntOp.andi (IntOp.andi (obj (t 9)) (first p t i j)) (obj (t 4))) (loss f (boxA p i j) (boxA t i j)) (k 0x00000000#32)
    + Scalar.select (IntOp.andi (obj (t 9)) (IntOp.xori (first p t i j) 1#1)) (loss f (boxB p i j) (boxB t i j)) (k 0x00000000#32)

/-- The cross entropy of one class channel as the kernel writes it. -/
def entropy (p t : EReal) : EReal :=
  k 0x00000000#32 - (Ideal.log (k 0x3F800000#32 - p)
    + t * (Ideal.log (max p (k 0x2B8CBCCC#32)) - Ideal.log (k 0x3F800000#32 - p)))

/-- The cross entropy of one class channel as the reference writes it. -/
def entropyClipped (p t : EReal) : EReal :=
  let q := min (k 0x3F800000#32) (max (k 0x2B8CBCCC#32) p);
  -(t * max (Ideal.log q) (k 0xC2C80000#32) + (k 0x3F800000#32 - t) * max (Ideal.log (k 0x3F800000#32 - q)) (k 0xC2C80000#32))

end Cert.Spec

end
-- ==== Proof.KernelCell.lean ====
/-
  What the kernel's body stores, read at the extended reals: sums of the cells' losses.
-/
module

public import proofs.«01_k».proof.Proof.Spec
public import proofs.«01_k».proof.Proof.OutIdeal

@[expose] public section

set_option maxRecDepth 16384

noncomputable section

namespace Cert.KernelIdeal.Hand

open Cert.KernelIdeal Cert.KernelIdeal.Gen
open Idealize.ShloMosaic

variable (p t : Fin 10 → FVec Ideal S196x256 .f32) (x : S196x256.Idx)

/-- A cell's column as the kernel computes it. -/
abbrev colAt : EReal := k0_pay2 (F := Ideal) x
/-- A cell's row as the kernel computes it. -/
abbrev rowAt : EReal := k0_pay5 (F := Ideal) (iota .tc S196x256 32 [0] iota_S196x256_d0_w32) 14#32 k0_pay3 k0_pay4 x

/-- The predicted first box's corners. -/
theorem box_p1 : Spec.boxA (fun c => p c x) (colAt x) (rowAt x) = ⟨px1 p t x, py1 p t x, px2 p t x, py2 p t x⟩ := rfl
/-- The predicted second box's corners. -/
theorem box_p2 : Spec.boxB (fun c => p c x) (colAt x) (rowAt x) = ⟨qx1 p t x, qy1 p t x, qx2 p t x, qy2 p t x⟩ := rfl
/-- The target first box's corners. -/
theorem box_t1 : Spec.boxA (fun c => t c x) (colAt x) (rowAt x) = ⟨tx1 p t x, ty1 p t x, tx2 p t x, ty2 p t x⟩ := rfl
/-- The target second box's corners. -/
theorem box_t2 : Spec.boxB (fun c => t c x) (colAt x) (rowAt x) = ⟨ux1 p t x, uy1 p t x, ux2 p t x, uy2 p t x⟩ := rfl

/-- The first boxes' overlap. -/
theorem iouA_apply : iouA p t x = Spec.iou (Spec.boxA (fun c => p c x) (colAt x) (rowAt x)) (Spec.boxA (fun c => t c x) (colAt x) (rowAt x)) := by
  rw [box_p1 p t, box_t1 p t]; rfl
/-- The second boxes' overlap. -/
theorem iouB_apply : iouB p t x = Spec.iou (Spec.boxB (fun c => p c x) (colAt x) (rowAt x)) (Spec.boxB (fun c => t c x) (colAt x) (rowAt x)) := by
  rw [box_p2 p t, box_t2 p t]; rfl

/-- Which box answers. -/
theorem firstBox_apply : firstBox p t x = Spec.first (fun c => p c x) (fun c => t c x) (colAt x) (rowAt x) := by
  rw [Spec.first, ← iouA_apply, ← iouB_apply]; rfl

/-- The loss of the first boxes. -/
theorem lossA_apply : lossA p t x = Spec.loss Spec.atanReduced (Spec.boxA (fun c => p c x) (colAt x) (rowAt x)) (Spec.boxA (fun c => t c x) (colAt x) (rowAt x)) := by
  rw [Spec.loss, ← iouA_apply, box_p1 p t, box_t1 p t]; rfl
/-- The loss of the second boxes. -/
theorem lossB_apply : lossB p t x = Spec.loss Spec.atanReduced (Spec.boxB (fun c => p c x) (colAt x) (rowAt x)) (Spec.boxB (fun c => t c x) (colAt x) (rowAt x)) := by
  rw [Spec.loss, ← iouB_apply, box_p2 p t, box_t2 p t]; rfl

/-- The channels of cell `x`. -/
abbrev at' (p : Fin 10 → FVec Ideal S196x256 .f32) (x : S196x256.Idx) : Fin 10 → EReal := fun c => p c x

/-- Adding up a block, as the body does it, is the sum over the block's cells. -/
theorem total_eq (v : FVec Ideal S196x256 .f32) :
    extractAt ![0, 0, 0] (shapeCast S1x1x1 (multiReduction .add [1, 2] S1 (shapeCast S1x196x256 v shapeCasts_S196x256_S1x196x256)
      0x00000000#32 reduces_S1x196x256_S1 (.inl rfl) rfl) shapeCasts_S1_S1x1x1) inpos_S1x1x1_p0_0_0 = ∑ x : S196x256.Idx, v x := by
  refine (Ideal.multiReduction_add_total (shapeCast S1x196x256 v shapeCasts_S196x256_S1x196x256) 0x00000000#32
    reduces_S1x196x256_S1 (by decide) (.inl rfl) rfl _).trans ?_
  exact (Shape.reshapeEquiv shapeCasts_S196x256_S1x196x256).sum_comp v

/-- All confidences' errors of a block. -/
theorem bceTotal_eq : bceTotal p t = ∑ x : S196x256.Idx, Spec.allCell (at' p x) (at' t x) := total_eq _

/-- The errors of the answering boxes of a block. -/
theorem bceResp_eq : bceResp p t = ∑ x : S196x256.Idx, Spec.objCell (at' p x) (at' t x) (colAt x) (rowAt x) := by
  refine (total_eq _).trans (Finset.sum_congr rfl fun x _ => ?_)
  unfold Spec.objCell
  rw [← firstBox_apply]
  rfl

/-- The box losses of a block. -/
theorem boxSum_eq : (∑ x : S196x256.Idx, addf (boxA p t) (select (boxB p t) (lossB p t) (broadcast S196x256 (Scalar.ofBits .f32 0x00000000#32))) x)
    = ∑ x : S196x256.Idx, Spec.boxCell Spec.atanReduced (at' p x) (at' t x) (colAt x) (rowAt x) := by
  refine Finset.sum_congr rfl fun x _ => ?_
  unfold Spec.boxCell
  rw [← firstBox_apply, ← lossA_apply, ← lossB_apply]
  rfl

/-- One grid point's share of the loss, from its cells. -/
def share (p t : Fin 10 → FVec Ideal S196x256 .f32) (cls : S196x256.Idx → EReal) : EReal :=
  (∑ x : S196x256.Idx, Spec.objCell (at' p x) (at' t x) (colAt x) (rowAt x))
    + Spec.k 0x3E4CCCCD#32 * ((∑ x : S196x256.Idx, Spec.allCell (at' p x) (at' t x)) - ∑ x : S196x256.Idx, Spec.objCell (at' p x) (at' t x) (colAt x) (rowAt x))
    + Spec.k 0x40E00000#32 * (∑ x : S196x256.Idx, Spec.boxCell Spec.atanReduced (at' p x) (at' t x) (colAt x) (rowAt x))
    + Spec.k 0x3FC00000#32 * ∑ x : S196x256.Idx, Scalar.select (Spec.obj (at' t x 9)) (cls x) (Spec.k 0x00000000#32)

/-- What the body stores: the block's share added to the running sum, divided by the batch size at the last point. -/
theorem outVal_apply (i : grid0.Coords) (x1 x2 : FVec Ideal S196x30x256 .f32) (o : FVec Ideal S1x1 .f32) (y : S1x1.Idx) :
    outVal i x1 x2 p t o y
      = Scalar.select (Scalar.cmpi .eq (BitVec.ofNat 32 (i 0).val) 3#32)
          (Ideal.div (Scalar.select (Scalar.cmpi .eq (BitVec.ofNat 32 (i 0).val) 0#32) (Spec.k 0x00000000#32) (o y) + share p t (k0_pay1 (F := Ideal) x1 x2)) (Spec.k 0x44800000#32))
          (Scalar.select (Scalar.cmpi .eq (BitVec.ofNat 32 (i 0).val) 0#32) (Spec.k 0x00000000#32) (o y) + share p t (k0_pay1 (F := Ideal) x1 x2)) := by
  unfold share
  rw [← bceResp_eq, ← bceTotal_eq, ← boxSum_eq, ← total_eq]
  rw [show (∑ x : S196x256.Idx, Scalar.select (Spec.obj (at' t x 9)) (k0_pay1 (F := Ideal) x1 x2 x) (Spec.k 0x00000000#32))
      = ∑ x : S196x256.Idx, select (objB p t) (k0_pay1 (F := Ideal) x1 x2) (broadcast S196x256 (Scalar.ofBits .f32 0x00000000#32)) x from rfl, ← total_eq]
  unfold outVal k0_pay78 Scalar.select
  simp only [shapeCast_self]
  split_ifs <;> rfl

/-- The class entropies of a cell, over the class channels. -/
theorem pay1_apply (x1 x2 : FVec Ideal S196x30x256 .f32) (r : Fin 196) (l : Fin 256) :
    k0_pay1 (F := Ideal) x1 x2 (ix2 r l) = ∑ c : Fin 30, Scalar.select (IntOp.cmpi .sge (BitVec.ofNat 32 c.val) 10#32)
      (Spec.entropy (x1 (ix3 r c l)) (x2 (ix3 r c l))) (Spec.k 0x00000000#32) := by
  unfold k0_pay1
  simp only [shapeCast_self]
  refine (Ideal.multiReduction_add_single _ 0x00000000#32 reduces_S196x30x256_S196x256 (.inl rfl) rfl _).trans ?_
  refine Finset.sum_congr rfl fun c _ => ?_
  have h : reduces_S196x30x256_S196x256.lift (ix2 r l) c = ix3 r c l := by
    funext a; fin_cases a <;> rfl
  have hi : iota .tc S196x30x256 32 [1] iota_S196x30x256_d1_w32 (ix3 r c l) = BitVec.ofNat 32 c.val :=
    iota_single_apply .tc S196x30x256 32 1 iota_S196x30x256_d1_w32 _
  rw [h, ← hi]
  rfl

end Cert.KernelIdeal.Hand

end
-- ==== Proof.RefCell.lean ====
/-
  What the reference computes, read at the extended reals: sums of the cells' losses.
-/
module

public import proofs.«01_k».proof.Proof.Spec
public import proofs.«01_k».proof.Proof.Gen.ReferenceIdeal.Run
public import Idealize.ShloMosaic.Lib.Pipeline.Value

@[expose] public section

set_option maxRecDepth 16384

noncomputable section

namespace Cert.ReferenceIdeal.Cell

open Cert.ReferenceIdeal Cert.ReferenceIdeal.Gen Cert.ReferenceIdeal.Value
open Idealize.ShloMosaic

/-- Channel `c` of box `n` of a cell is channel `5 n + c` of the cell. -/
theorem chan_apply (f : FVec Ideal S1024x14x14x30 .f32) (h1 : S1024x14x14x30.Slices ![0, 0, 0, 0] S1024x14x14x10)
    (h2 : S1024x14x14x10.ShapeCasts S1024x14x14x2x5) (c : ℕ) (hc : c < 5) (h3 : S1024x14x14x2x5.Slices ![0, 0, 0, 0, c] S1024x14x14x2x1)
    (h4 : S1024x14x14x2x1.ShapeCasts S1024x14x14x2) (b : Fin 1024) (y x : Fin 14) (n : Fin 2) :
    shapeCast S1024x14x14x2 (extractStridedSlice S1024x14x14x2x1 ![0, 0, 0, 0, c]
      (shapeCast S1024x14x14x2x5 (extractStridedSlice S1024x14x14x10 ![0, 0, 0, 0] f h1) h2) h3) h4 (ix4 b y x n)
      = f (ix4 b y x ⟨5 * n.val + c, by omega⟩) := by
  refine (shapeCast_apply _ h4 _ (ix5 b y x n 0) ?_).trans ((extractStridedSlice_apply _ _ h3 _ (ix5 b y x n ⟨c, hc⟩) ?_).trans
    ((shapeCast_apply _ h2 _ (ix4 b y x ⟨5 * n.val + c, by omega⟩) ?_).trans (extractStridedSlice_apply _ _ h1 _ _ ?_)))
  · rw [Shape.rowMajor_val_five, Shape.rowMajor_val_four]; simp
  · intro a; fin_cases a <;> simp
  · rw [Shape.rowMajor_val_five, Shape.rowMajor_val_four]; simp; omega
  · intro a; fin_cases a <;> simp

variable (V0 : Valuation τ sig (Elt Ideal))

/-- The predictions. -/
abbrev preds : FVec Ideal S1024x14x14x30 .f32 := V0 (Proc.devRef .tc main_arg0)
/-- The targets. -/
abbrev targs : FVec Ideal S1024x14x14x30 .f32 := V0 (Proc.devRef .tc main_arg1)

/-- The first ten channels of a cell. -/
def chans (f : FVec Ideal S1024x14x14x30 .f32) (b : Fin 1024) (y x : Fin 14) : Fin 10 → EReal :=
  fun c => f (ix4 b y x ⟨c.val, by omega⟩)

/-- A column's or row's number. -/
def off (n : ℕ) : EReal := (((BitVec.ofNat 32 n).toInt : ℝ) : EReal)

/-- Box `n` of a cell. -/
def boxN (f : FVec Ideal S1024x14x14x30 .f32) (b : Fin 1024) (y x : Fin 14) (n : Fin 2) : Spec.Box :=
  Spec.boxOf (f (ix4 b y x ⟨5 * n.val + 0, by omega⟩)) (f (ix4 b y x ⟨5 * n.val + 1, by omega⟩)) (f (ix4 b y x ⟨5 * n.val + 2, by omega⟩))
    (f (ix4 b y x ⟨5 * n.val + 3, by omega⟩)) (off x.val) (off y.val)

variable (b : Fin 1024) (y x : Fin 14) (n : Fin 2)

/-- A predicted box's width. -/
theorem v21_apply : res_main_v21 V0 (ix4 b y x n) = preds V0 (ix4 b y x ⟨5 * n.val + 2, by omega⟩) :=
  chan_apply (preds V0) _ _ 2 (by decide) _ _ b y x n
/-- A predicted box's height. -/
theorem v23_apply : res_main_v23 V0 (ix4 b y x n) = preds V0 (ix4 b y x ⟨5 * n.val + 3, by omega⟩) :=
  chan_apply (preds V0) _ _ 3 (by decide) _ _ b y x n
/-- A target box's width. -/
theorem v49_apply : res_main_v49 V0 (ix4 b y x n) = targs V0 (ix4 b y x ⟨5 * n.val + 2, by omega⟩) :=
  chan_apply (targs V0) _ _ 2 (by decide) _ _ b y x n
/-- A target box's height. -/
theorem v51_apply : res_main_v51 V0 (ix4 b y x n) = targs V0 (ix4 b y x ⟨5 * n.val + 3, by omega⟩) :=
  chan_apply (targs V0) _ _ 3 (by decide) _ _ b y x n
/-- A target box's confidence. -/
theorem v7_apply : res_main_v7 V0 (ix4 b y x n) = targs V0 (ix4 b y x ⟨5 * n.val + 4, by omega⟩) :=
  chan_apply (targs V0) _ _ 4 (by decide) _ _ b y x n

/-- A predicted box's centre, across. -/
theorem v27_apply : res_main_v27 V0 (ix4 b y x n) = (preds V0 (ix4 b y x ⟨5 * n.val + 0, by omega⟩) + off x.val) * Spec.k 0x3D924925#32 := by
  rw [← chan_apply (preds V0) slices_S1024x14x14x30_S1024x14x14x10_0_0_0_0 shapeCasts_S1024x14x14x10_S1024x14x14x2x5 0 (by decide)
    slices_S1024x14x14x2x5_S1024x14x14x2x1_0_0_0_0_0 shapeCasts_S1024x14x14x2x1_S1024x14x14x2 b y x n]; rfl
/-- A predicted box's centre, down. -/
theorem v31_apply : res_main_v31 V0 (ix4 b y x n) = (preds V0 (ix4 b y x ⟨5 * n.val + 1, by omega⟩) + off y.val) * Spec.k 0x3D924925#32 := by
  rw [← chan_apply (preds V0) slices_S1024x14x14x30_S1024x14x14x10_0_0_0_0 shapeCasts_S1024x14x14x10_S1024x14x14x2x5 1 (by decide)
    slices_S1024x14x14x2x5_S1024x14x14x2x1_0_0_0_0_1 shapeCasts_S1024x14x14x2x1_S1024x14x14x2 b y x n]; rfl
/-- A target box's centre, across. -/
theorem v55_apply : res_main_v55 V0 (ix4 b y x n) = (targs V0 (ix4 b y x ⟨5 * n.val + 0, by omega⟩) + off x.val) * Spec.k 0x3D924925#32 := by
  rw [← chan_apply (targs V0) slices_S1024x14x14x30_S1024x14x14x10_0_0_0_0 shapeCasts_S1024x14x14x10_S1024x14x14x2x5 0 (by decide)
    slices_S1024x14x14x2x5_S1024x14x14x2x1_0_0_0_0_0 shapeCasts_S1024x14x14x2x1_S1024x14x14x2 b y x n]; rfl
/-- A target box's centre, down. -/
theorem v59_apply : res_main_v59 V0 (ix4 b y x n) = (targs V0 (ix4 b y x ⟨5 * n.val + 1, by omega⟩) + off y.val) * Spec.k 0x3D924925#32 := by
  rw [← chan_apply (targs V0) slices_S1024x14x14x30_S1024x14x14x10_0_0_0_0 shapeCasts_S1024x14x14x10_S1024x14x14x2x5 1 (by decide)
    slices_S1024x14x14x2x5_S1024x14x14x2x1_0_0_0_0_1 shapeCasts_S1024x14x14x2x1_S1024x14x14x2 b y x n]; rfl

/-- The predicted boxes' corners. -/
theorem box_pred : boxN (preds V0) b y x n = ⟨res_main_v34 V0 (ix4 b y x n), res_main_v37 V0 (ix4 b y x n), res_main_v40 V0 (ix4 b y x n), res_main_v43 V0 (ix4 b y x n)⟩ := by
  unfold boxN Spec.boxOf
  rw [← v27_apply, ← v31_apply, ← v21_apply, ← v23_apply]; rfl
/-- The target boxes' corners. -/
theorem box_targ : boxN (targs V0) b y x n = ⟨res_main_v62 V0 (ix4 b y x n), res_main_v65 V0 (ix4 b y x n), res_main_v68 V0 (ix4 b y x n), res_main_v71 V0 (ix4 b y x n)⟩ := by
  unfold boxN Spec.boxOf
  rw [← v55_apply, ← v59_apply, ← v49_apply, ← v51_apply]; rfl

/-- The overlaps. -/
theorem v93_apply : res_main_v93 V0 (ix4 b y x n) = Spec.iou (boxN (preds V0) b y x n) (boxN (targs V0) b y x n) := by
  rw [box_pred, box_targ]; rfl

/-- The aspect term. -/
theorem v298_apply : res_main_v298 V0 (ix4 b y x n) = Spec.aspect Spec.atanRanges (boxN (preds V0) b y x n) (boxN (targs V0) b y x n) := by
  rw [box_pred, box_targ]; rfl

/-- The confidence errors. -/
theorem v112_apply : res_main_v112 V0 (ix4 b y x n)
    = Spec.sq (preds V0 (ix4 b y x ⟨5 * n.val + 4, by omega⟩)) (targs V0 (ix4 b y x ⟨5 * n.val + 4, by omega⟩)) := by
  rw [← v7_apply, ← chan_apply (preds V0) slices_S1024x14x14x30_S1024x14x14x10_0_0_0_0 shapeCasts_S1024x14x14x10_S1024x14x14x2x5 4 (by decide)
    slices_S1024x14x14x2x5_S1024x14x14x2x1_0_0_0_0_4 shapeCasts_S1024x14x14x2x1_S1024x14x14x2 b y x n]; rfl

end Cert.ReferenceIdeal.Cell

end
-- ==== Proof.RefSum.lean ====
/-
  What the reference returns, as sums over the cells.
-/
module

public import proofs.«01_k».proof.Proof.RefCell
public import Idealize.ShloMosaic.Lib.Pointwise

@[expose] public section

set_option maxRecDepth 16384

noncomputable section

namespace Cert.ReferenceIdeal.Cell

open Cert.ReferenceIdeal Cert.ReferenceIdeal.Gen Cert.ReferenceIdeal.Value
open Idealize.ShloMosaic

/-- Two equal bits are both set or both not. -/
theorem bit_ext {a c : BitVec 1} (h : a = 1 ↔ c = 1) : a = c := by revert a c; decide

/-- The reference's sum over every box of every cell. -/
theorem sum2 (X : FVec Ideal S1024x14x14x2 .f32) (j : S_.Idx) :
    Host.reduceAdd X (constant (F := Ideal) S_ .f32 0x00000000#32) reducesTo_S1024x14x14x2_S_d0_1_2_3 h_S_ j
      = ∑ b : Fin 1024, ∑ y : Fin 14, ∑ x : Fin 14, (X (ix4 b y x 0) + X (ix4 b y x 1)) := by
  refine (Ideal.hostReduceAdd_total _ (fun a => a.elim0) X _ j).trans ?_
  refine (congrArg (· + _) Ideal.ofBits_zero_f32).trans ((zero_add _).trans ((sum_idx4 _).trans ?_))
  simp only [Fin.sum_univ_two]

/-- The reference's sum over every class of every cell. -/
theorem sum20 (X : FVec Ideal S1024x14x14x20 .f32) (j : S_.Idx) :
    Host.reduceAdd X (constant (F := Ideal) S_ .f32 0x00000000#32) reducesTo_S1024x14x14x20_S_d0_1_2_3 h_S_ j
      = ∑ b : Fin 1024, ∑ y : Fin 14, ∑ x : Fin 14, ∑ c : Fin 20, X (ix4 b y x c) := by
  refine (Ideal.hostReduceAdd_total _ (fun a => a.elim0) X _ j).trans ?_
  exact (congrArg (· + _) Ideal.ofBits_zero_f32).trans ((zero_add _).trans (sum_idx4 _))

/-- One box's share of a field of two boxes per cell. -/
theorem pick {α : Type} (f : S1024x14x14x2.Idx → α) (n : Fin 2) (h : S1024x14x14x2.Slices ![0, 0, 0, n.val] S1024x14x14x1)
    (h' : S1024x14x14x1.ShapeCasts S1024x14x14) (b : Fin 1024) (y x : Fin 14) :
    shapeCast S1024x14x14 (extractStridedSlice S1024x14x14x1 ![0, 0, 0, n.val] f h) h' (ix3 b y x) = f (ix4 b y x n) := by
  refine (shapeCast_apply _ h' _ (ix4 b y x 0) ?_).trans (extractStridedSlice_apply _ _ h _ _ ?_)
  · rw [Shape.rowMajor_val_four, Shape.rowMajor_val_three]; simp
  · intro a; fin_cases a <;> simp

variable (V0 : Valuation τ sig (Elt Ideal)) (b : Fin 1024) (y x : Fin 14)

/-- A cell's predicted channels. -/
abbrev cp : Fin 10 → EReal := chans (preds V0) b y x
/-- A cell's target channels. -/
abbrev ct : Fin 10 → EReal := chans (targs V0) b y x

/-- Whether a target box holds an object. -/
theorem v9_apply (n : Fin 2) : res_main_v9 V0 (ix4 b y x n) = Spec.obj (targs V0 (ix4 b y x ⟨5 * n.val + 4, by omega⟩)) := by
  rw [← v7_apply]; rfl

/-- Whether the second target box holds an object. -/
theorem v11_apply : res_main_v11 V0 (ix3 b y x) = Spec.obj (ct V0 b y x 9) :=
  (pick (res_main_v9 V0) 1 _ _ b y x).trans (v9_apply V0 b y x 1)

/-- The reference's mask of the boxes answering for an object, by the two overlaps. -/
theorem v107_apply (n : Fin 2) : res_main_v107 V0 (ix4 b y x n)
    = IntOp.andi (res_main_v9 V0 (ix4 b y x n)) (~~~(IntOp.andi (Spec.obj (ct V0 b y x 9))
        (IntOp.cmpi .eq (IntOp.subi 1#32 (Scalar.select (Ideal.cmp .ogt (res_main_v93 V0 (ix4 b y x 1)) (res_main_v93 V0 (ix4 b y x 0))) 1#32 0#32))
          (BitVec.ofNat 32 n.val)))) := by
  rw [← v11_apply, ← pick (res_main_v93 V0) 1 slices_S1024x14x14x2_S1024x14x14x1_0_0_0_1 shapeCasts_S1024x14x14x1_S1024x14x14 b y x,
    ← pick (res_main_v93 V0) 0 slices_S1024x14x14x2_S1024x14x14x1_0_0_0_0 shapeCasts_S1024x14x14x1_S1024x14x14 b y x]
  rfl

/-- Which box overlaps most, as the reference says it and as `first` says it. -/
theorem gt_first : Ideal.cmp .ogt (res_main_v93 V0 (ix4 b y x 1)) (res_main_v93 V0 (ix4 b y x 0))
    = IntOp.xori (Spec.first (cp V0 b y x) (ct V0 b y x) (off x.val) (off y.val)) 1#1 := by
  rw [v93_apply, v93_apply]
  show Ideal.cmp .ogt (Spec.iou (Spec.boxB (cp V0 b y x) (off x.val) (off y.val)) (Spec.boxB (ct V0 b y x) (off x.val) (off y.val)))
    (Spec.iou (Spec.boxA (cp V0 b y x) (off x.val) (off y.val)) (Spec.boxA (ct V0 b y x) (off x.val) (off y.val))) = _
  unfold Spec.first
  generalize Spec.iou _ _ = u, Spec.iou _ _ = v
  have e : ∀ c : BitVec 1, IntOp.xori c 1#1 = 1 ↔ ¬ c = 1 := by decide
  apply bit_ext
  rw [e, Ideal.cmp_ogt_eq_one, Ideal.cmp_oge_eq_one, not_le]

/-- Whether the first box answers for an object. -/
def maskA (p t : Fin 10 → EReal) (i j : EReal) : BitVec 1 :=
  IntOp.andi (Spec.obj (t 4)) (IntOp.ori (IntOp.xori (Spec.obj (t 9)) 1#1) (Spec.first p t i j))
/-- Whether the second box answers for an object. -/
def maskB (p t : Fin 10 → EReal) (i j : EReal) : BitVec 1 := IntOp.andi (Spec.obj (t 9)) (IntOp.xori (Spec.first p t i j) 1#1)

/-- The reference's mask at the first box, bit by bit. -/
theorem bits_A : ∀ u v f : BitVec 1, IntOp.andi u (~~~(IntOp.andi v (IntOp.cmpi .eq
    (IntOp.subi 1#32 (Scalar.select (IntOp.xori f 1#1) 1#32 0#32)) 0#32))) = IntOp.andi u (IntOp.ori (IntOp.xori v 1#1) f) := by decide
/-- The reference's mask at the second box, bit by bit. -/
theorem bits_B : ∀ v f : BitVec 1, IntOp.andi v (~~~(IntOp.andi v (IntOp.cmpi .eq
    (IntOp.subi 1#32 (Scalar.select (IntOp.xori f 1#1) 1#32 0#32)) 1#32))) = IntOp.andi v (IntOp.xori f 1#1) := by decide
/-- The first box's mask where the cell has an object. -/
theorem bits_A' : ∀ u v f : BitVec 1, IntOp.andi (IntOp.andi u (IntOp.ori (IntOp.xori v 1#1) f)) v = IntOp.andi (IntOp.andi v f) u := by decide
/-- The second box's mask where the cell has an object. -/
theorem bits_B' : ∀ v f : BitVec 1, IntOp.andi (IntOp.andi v (IntOp.xori f 1#1)) v = IntOp.andi v (IntOp.xori f 1#1) := by decide

/-- The reference's mask at the first box. -/
theorem mask_A : res_main_v107 V0 (ix4 b y x 0) = maskA (cp V0 b y x) (ct V0 b y x) (off x.val) (off y.val) := by
  rw [v107_apply, gt_first, v9_apply]; exact bits_A _ _ _
/-- The reference's mask at the second box. -/
theorem mask_B : res_main_v107 V0 (ix4 b y x 1) = maskB (cp V0 b y x) (ct V0 b y x) (off x.val) (off y.val) := by
  rw [v107_apply, gt_first, v9_apply]; exact bits_B _ _

/-- The confidence error of the boxes answering for no object. -/
def noobjCell (p t : Fin 10 → EReal) (i j : EReal) : EReal :=
  Scalar.select (~~~(maskA p t i j)) (Spec.sq (p 4) (t 4)) (Spec.k 0x00000000#32)
    + Scalar.select (~~~(maskB p t i j)) (Spec.sq (p 9) (t 9)) (Spec.k 0x00000000#32)

/-- A class channel of a cell. -/
def cls (f : FVec Ideal S1024x14x14x30 .f32) (b : Fin 1024) (y x : Fin 14) (c : Fin 20) : EReal := f (ix4 b y x ⟨10 + c.val, by omega⟩)

/-- A sum over every cell. -/
def cells (f : Fin 1024 → Fin 14 → Fin 14 → EReal) : EReal := ∑ b : Fin 1024, ∑ y : Fin 14, ∑ x : Fin 14, f b y x

/-- Sums over cells of equal terms are equal. -/
theorem cells_congr {f g : Fin 1024 → Fin 14 → Fin 14 → EReal} (h : ∀ b y x, f b y x = g b y x) : cells f = cells g :=
  congrArg cells (funext fun b => funext fun y => funext fun x => h b y x)

/-- The reference's result. -/
def total : EReal :=
  Ideal.div
    (cells (fun b y x => Spec.objCell (cp V0 b y x) (ct V0 b y x) (off x.val) (off y.val))
      + Spec.k 0x3E4CCCCD#32 * cells (fun b y x => noobjCell (cp V0 b y x) (ct V0 b y x) (off x.val) (off y.val))
      + Spec.k 0x40E00000#32 * cells (fun b y x => Spec.boxCell Spec.atanRanges (cp V0 b y x) (ct V0 b y x) (off x.val) (off y.val))
      + cells (fun b y x => ∑ c : Fin 20, Scalar.select (Spec.obj (ct V0 b y x 9))
          (Spec.entropyClipped (cls (preds V0) b y x c) (cls (targs V0) b y x c)) (Spec.k 0x00000000#32)) * Spec.k 0x3FC00000#32)
    (Spec.k 0x44800000#32)

/-- A target class channel. -/
theorem v4_apply (c : Fin 20) : res_main_v4 V0 (ix4 b y x c) = cls (targs V0) b y x c := by
  refine extractStridedSlice_apply _ _ _ _ _ ?_
  intro a; fin_cases a <;> simp

/-- A predicted class channel, clipped. -/
theorem v322_apply (c : Fin 20) : res_main_v322 V0 (ix4 b y x c)
    = min (Spec.k 0x3F800000#32) (max (Spec.k 0x2B8CBCCC#32) (cls (preds V0) b y x c)) := by
  have h : extractStridedSlice S1024x14x14x20 ![0, 0, 0, 10] (preds V0) slices_S1024x14x14x30_S1024x14x14x20_0_0_0_10 (ix4 b y x c)
      = cls (preds V0) b y x c := by
    refine extractStridedSlice_apply _ _ _ _ _ ?_
    intro a; fin_cases a <;> simp
  rw [← h]; rfl

/-- The reference leaves its arguments and returns `total`. -/
theorem run_total (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v346) = (fun _ => total (StableHlo.launchContents m c))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run _ _ _).mono (fun r h d => ⟨(h d).1.trans (funext fun j => ?_), (h d).2⟩) (run m ρ)
  refine congrArg (fun s => Ideal.div s (Spec.k 0x44800000#32)) (congrArg₂ (· + ·) (congrArg₂ (· + ·) (congrArg₂ (· + ·) ?_
    (congrArg (Spec.k 0x3E4CCCCD#32 * ·) ?_)) (congrArg (Spec.k 0x40E00000#32 * ·) ?_)) (congrArg (· * Spec.k 0x3FC00000#32) ?_))
  · refine (sum2 _ j).trans (cells_congr fun b y x => congrArg₂ (· + ·) ?_ ?_)
    · exact congrArg₂ (fun u a => Scalar.select u a (Spec.k 0x00000000#32)) (mask_A (StableHlo.launchContents m d) b y x) (v112_apply (StableHlo.launchContents m d) b y x 0)
    · exact congrArg₂ (fun u a => Scalar.select u a (Spec.k 0x00000000#32)) (mask_B (StableHlo.launchContents m d) b y x) (v112_apply (StableHlo.launchContents m d) b y x 1)
  · refine (sum2 _ j).trans (cells_congr fun b y x => congrArg₂ (· + ·) ?_ ?_)
    · exact congrArg₂ (fun u a => Scalar.select (~~~u) a (Spec.k 0x00000000#32)) (mask_A (StableHlo.launchContents m d) b y x) (v112_apply (StableHlo.launchContents m d) b y x 0)
    · exact congrArg₂ (fun u a => Scalar.select (~~~u) a (Spec.k 0x00000000#32)) (mask_B (StableHlo.launchContents m d) b y x) (v112_apply (StableHlo.launchContents m d) b y x 1)
  · refine (sum2 _ j).trans (cells_congr fun b y x => congrArg₂ (· + ·) ?_ ?_)
    · refine congrArg₂ (fun u a => Scalar.select u a (Spec.k 0x00000000#32))
        ((congrArg₂ IntOp.andi (mask_A (StableHlo.launchContents m d) b y x) (v11_apply (StableHlo.launchContents m d) b y x)).trans (bits_A' _ _ _))
        (?_ : _ = Spec.loss Spec.atanRanges (boxN (preds (StableHlo.launchContents m d)) b y x 0) (boxN (targs (StableHlo.launchContents m d)) b y x 0))
      rw [box_pred, box_targ]; rfl
    · refine congrArg₂ (fun u a => Scalar.select u a (Spec.k 0x00000000#32))
        ((congrArg₂ IntOp.andi (mask_B (StableHlo.launchContents m d) b y x) (v11_apply (StableHlo.launchContents m d) b y x)).trans (bits_B' _ _))
        (?_ : _ = Spec.loss Spec.atanRanges (boxN (preds (StableHlo.launchContents m d)) b y x 1) (boxN (targs (StableHlo.launchContents m d)) b y x 1))
      rw [box_pred, box_targ]; rfl
  · refine (sum20 _ j).trans (cells_congr fun b y x => Finset.sum_congr rfl fun c _ => ?_)
    refine congrArg₂ (fun u a => Scalar.select u a (Spec.k 0x00000000#32)) (v11_apply (StableHlo.launchContents m d) b y x) ?_
    unfold Spec.entropyClipped
    rw [← v4_apply, ← v322_apply]; rfl

end Cert.ReferenceIdeal.Cell

end
-- ==== Proof.KernelSum.lean ====
/-
  The kernel's result from its arguments: the four grid points' shares of the cells' losses.
-/
module

public import proofs.«01_k».proof.Proof.KernelCell
public import proofs.«01_k».proof.Proof.MainIdeal
public import proofs.«01_k».proof.Proof.RefSum
public import Idealize.ShloMosaic.Lib.Pipeline.ValueKit

@[expose] public section

set_option maxRecDepth 2048

noncomputable section

namespace Cert.KernelIdeal.Hand

open Cert.KernelIdeal Cert.KernelIdeal.Gen
open Idealize.ShloMosaic
open Idealize.ShloMosaic.TcCoe Idealize.ShloMosaic.StableHlo

open Cert.ReferenceIdeal.Cell (off chans cls cells)

/-- A slab row's column number, as a word. -/
theorem col_word : ∀ r : Fin 196, IntOp.remsi .vector (BitVec.ofNat 32 r.val) 14#32 = BitVec.ofNat 32 (r.val % 14) := by decide +kernel

/-- The column of the kernel's cell `r`. -/
theorem colAt_apply (r : Fin 196) (l : Fin 256) : colAt (ix2 r l) = off (r.val % 14) := by
  have hi : iota .tc S196x256 32 [0] iota_S196x256_d0_w32 (ix2 r l) = BitVec.ofNat 32 r.val := iota_single_apply .tc S196x256 32 0 iota_S196x256_d0_w32 _
  unfold off
  rw [← col_word, ← hi]; rfl

/-- A cell's row as the kernel divides it out of the cell's number. -/
def rowWord (w : BitVec 32) : BitVec 32 :=
  Scalar.select (IntOp.andi (IntOp.cmpi .ne (IntOp.subi ((IntOp.cmpi .sgt w 0#32).setWidth 32) ((IntOp.cmpi .slt w 0#32).setWidth 32))
      (Scalar.subi (Scalar.extui (Scalar.cmpi .sgt 14#32 0#32)) (Scalar.extui (Scalar.cmpi .slt 14#32 0#32))))
      (IntOp.cmpi .ne (IntOp.remsi .vector w 14#32) 0#32))
    (IntOp.subi (IntOp.divsi .vector w 14#32) 1#32) (IntOp.divsi .vector w 14#32)

/-- A slab row's row number, as a word. -/
theorem row_word : ∀ r : Fin 196, rowWord (BitVec.ofNat 32 r.val) = BitVec.ofNat 32 (r.val / 14) := by decide +kernel

/-- The row of the kernel's cell `r`. -/
theorem rowAt_apply (r : Fin 196) (l : Fin 256) : rowAt (ix2 r l) = off (r.val / 14) := by
  have hi : iota .tc S196x256 32 [0] iota_S196x256_d0_w32 (ix2 r l) = BitVec.ofNat 32 r.val := iota_single_apply .tc S196x256 32 0 iota_S196x256_d0_w32 _
  unfold off
  rw [← row_word, ← hi]; rfl

variable (m : (ℓ : Loc nD τ sig) → Buf (Elt Ideal) ℓ) (c : Dev nD)

/-- The predictions. -/
abbrev preds : FVec Ideal S1024x14x14x30 .f32 := m ((c : Thread nD τ).loc main_arg0)
/-- The targets. -/
abbrev targs : FVec Ideal S1024x14x14x30 .f32 := m ((c : Thread nD τ).loc main_arg1)

/-- An argument turned batch last and flattened over the cells, at one element. -/
theorem turned_apply (f : FVec Ideal S1024x14x14x30 .f32) (h1 : S1024x14x14x30.Transposes [1, 2, 3, 0] S14x14x30x1024) (h2 : S14x14x30x1024.ShapeCasts S196x30x1024)
    (r : Fin 196) (k : Fin 30) (b : Fin 1024) :
    shapeCast S196x30x1024 (transpose S14x14x30x1024 [1, 2, 3, 0] f h1) h2 (ix3 r k b) = f (ix4 b ⟨r.val / 14, by omega⟩ ⟨r.val % 14, by omega⟩ k) := by
  refine (shapeCast_apply _ h2 _ (ix4 ⟨r.val / 14, by omega⟩ ⟨r.val % 14, by omega⟩ k b) ?_).trans (transpose_apply _ _ h1 _ _ ?_)
  · rw [Shape.rowMajor_val_four, Shape.rowMajor_val_three]; simp; omega
  · intro a; fin_cases a <;> rfl

/-- The turned predictions. -/
theorem V1_apply (r : Fin 196) (k : Fin 30) (b : Fin 1024) :
    (V m c main_v1 : FVec Ideal S196x30x1024 .f32) (ix3 r k b) = preds m c (ix4 b ⟨r.val / 14, by omega⟩ ⟨r.val % 14, by omega⟩ k) := by
  refine Eq.trans ?_ (turned_apply (preds m c) transposes_S1024x14x14x30_S14x14x30x1024_1_2_3_0 shapeCasts_S14x14x30x1024_S196x30x1024 r k b)
  refine congrFun ?_ _
  show StableHlo.after hostOps0 (fun b => m (c, b)) (Proc.devRef .tc main_v1) = _
  after_results
  rfl
/-- The turned targets. -/
theorem V3_apply (r : Fin 196) (k : Fin 30) (b : Fin 1024) :
    (V m c main_v3 : FVec Ideal S196x30x1024 .f32) (ix3 r k b) = targs m c (ix4 b ⟨r.val / 14, by omega⟩ ⟨r.val % 14, by omega⟩ k) := by
  refine Eq.trans ?_ (turned_apply (targs m c) transposes_S1024x14x14x30_S14x14x30x1024_1_2_3_0 shapeCasts_S14x14x30x1024_S196x30x1024 r k b)
  refine congrFun ?_ _
  show StableHlo.after hostOps0 (fun b => m (c, b)) (Proc.devRef .tc main_v3) = _
  after_results
  rfl

/-- A copied slab at a cell. -/
theorem slabOf_apply (M : Memref sig .tc .hbm S196x30x1024 .f32) (o : Fin S196x30x1024.rank → ℕ) (inb : ∀ d, o d + S196x1x256.size d ≤ S196x30x1024.size d)
    (f : Buf (Elt Ideal) (M.view.loc (c : Thread nD τ))) (r : Fin 196) (l : Fin 256) (k : Fin 30) (b : Fin 1024)
    (h0 : o 0 = 0) (h1 : o 1 = k.val) (h2 : o 2 + l.val = b.val) :
    slabOf c M o inb f (ix2 r l) = M.view.read (Elt Ideal) f (ix3 r k b) := by
  unfold slabOf
  rw [Memref.read_squeeze_slice M _ _ _ (show S196x1x256.ShapeCasts S196x256 by decide)]
  refine (shapeCast_apply _ _ _ (ix3 r 0 l) ?_).trans ?_
  · rw [Shape.rowMajor_val_two, Shape.rowMajor_val_three]; simp
  · unfold View.readAt
    refine congrArg _ ?_
    funext a; apply Fin.ext; fin_cases a
    all_goals simp [h0, h1, h2]

/-- A grid point's coordinate is its number. -/
theorem point : ∀ t : Fin cfg0.N, (grid0.coords t 0).val = t.val := by decide +kernel
/-- A grid point's first lane, as a word. -/
theorem point_word : ∀ t : Fin cfg0.N, (Scalar.muli (BitVec.ofNat 32 (grid0.coords t 0).val) 256#32).toNat = 256 * t.val := by decide +kernel

/-- There are four grid points. -/
theorem point_lt : ∀ t : Fin cfg0.N, t.val < 4 := by decide +kernel

/-- The batch number of lane `l` of grid point `t`. -/
def lane (t : Fin cfg0.N) (l : Fin 256) : Fin 1024 := ⟨256 * t.val + l.val, by have := point_lt t; omega⟩

set_option maxHeartbeats 1000000 in
/-- The copied slab of channel `k` at a cell. -/
theorem slabs_apply (t : Fin cfg0.N) (M : Memref sig .tc .hbm S196x30x1024 .f32)
    (f : Buf (Elt Ideal) (M.view.loc (c : Thread nD τ))) (r : Fin 196) (l : Fin 256) (k : Fin 10) :
    slabs c (grid0.coords t) M f k (ix2 r l) = M.view.read (Elt Ideal) f (ix3 r ⟨k.val, by omega⟩ (lane t l)) := by
  have h2 : (Scalar.muli (BitVec.ofNat 32 (grid0.coords t 0).val) 256#32).toNat + l.val = (lane t l).val := by rw [point_word]; rfl
  match k with
  | 0 => exact slabOf_apply c M _ _ f r l 0 _ rfl rfl h2
  | 1 => exact slabOf_apply c M _ _ f r l 1 _ rfl rfl h2
  | 2 => exact slabOf_apply c M _ _ f r l 2 _ rfl rfl h2
  | 3 => exact slabOf_apply c M _ _ f r l 3 _ rfl rfl h2
  | 4 => exact slabOf_apply c M _ _ f r l 4 _ rfl rfl h2
  | 5 => exact slabOf_apply c M _ _ f r l 5 _ rfl rfl h2
  | 6 => exact slabOf_apply c M _ _ f r l 6 _ rfl rfl h2
  | 7 => exact slabOf_apply c M _ _ f r l 7 _ rfl rfl h2
  | 8 => exact slabOf_apply c M _ _ f r l 8 _ rfl rfl h2
  | 9 => exact slabOf_apply c M _ _ f r l 9 _ rfl rfl h2

/-- The blocks of the first window. -/
theorem iblk0_apply (t : Fin cfg0.N) (r : Fin 196) (k : Fin 30) (l : Fin 256) :
    iblk m c 0 t (ix3 r k l) = (V m c main_v1 : FVec Ideal S196x30x1024 .f32) (ix3 r k (lane t l)) := by
  have e : ∀ t : Fin cfg0.N, win0_0.index t = ![0, 0, t.val] := by decide +kernel
  unfold iblk
  refine congrArg (V m c main_v1 : FVec Ideal S196x30x1024 .f32) (funext fun a => Fin.ext ?_)
  refine (Pipeline.Window.rect_emb_val win0_0 t (ix3 r k l) a).trans ?_
  rw [e t]
  unfold lane
  fin_cases a <;> simp [Nat.mul_comm]
/-- The blocks of the second window. -/
theorem iblk1_apply (t : Fin cfg0.N) (r : Fin 196) (k : Fin 30) (l : Fin 256) :
    iblk m c 1 t (ix3 r k l) = (V m c main_v3 : FVec Ideal S196x30x1024 .f32) (ix3 r k (lane t l)) := by
  have e : ∀ t : Fin cfg0.N, win0_1.index t = ![0, 0, t.val] := by decide +kernel
  unfold iblk
  refine congrArg (V m c main_v3 : FVec Ideal S196x30x1024 .f32) (funext fun a => Fin.ext ?_)
  refine (Pipeline.Window.rect_emb_val win0_1 t (ix3 r k l) a).trans ?_
  rw [e t]
  unfold lane
  fin_cases a <;> simp [Nat.mul_comm]

/-- A sum over the cells of one grid point. -/
def tile (g : Fin 1024 → Fin 14 → Fin 14 → EReal) (t : Fin cfg0.N) : EReal :=
  ∑ r : Fin 196, ∑ l : Fin 256, g (lane t l) ⟨r.val / 14, by omega⟩ ⟨r.val % 14, by omega⟩

/-- The cross entropies of a cell as the kernel adds them. -/
def clsCell (P T : FVec Ideal S1024x14x14x30 .f32) (b : Fin 1024) (y x : Fin 14) : EReal :=
  Scalar.select (Spec.obj (chans T b y x 9)) (∑ c : Fin 30, Scalar.select (IntOp.cmpi .sge (BitVec.ofNat 32 c.val) 10#32)
      (Spec.entropy (P (ix4 b y x c)) (T (ix4 b y x c))) (Spec.k 0x00000000#32)) (Spec.k 0x00000000#32)

/-- One grid point's share of the loss, from the arguments. -/
def pointShare (P T : FVec Ideal S1024x14x14x30 .f32) (t : Fin cfg0.N) : EReal :=
  tile (fun b y x => Spec.objCell (chans P b y x) (chans T b y x) (off x.val) (off y.val)) t
    + Spec.k 0x3E4CCCCD#32 * (tile (fun b y x => Spec.allCell (chans P b y x) (chans T b y x)) t
        - tile (fun b y x => Spec.objCell (chans P b y x) (chans T b y x) (off x.val) (off y.val)) t)
    + Spec.k 0x40E00000#32 * tile (fun b y x => Spec.boxCell Spec.atanReduced (chans P b y x) (chans T b y x) (off x.val) (off y.val)) t
    + Spec.k 0x3FC00000#32 * tile (clsCell P T) t

/-- The copied slabs of the predictions at one cell: its channels. -/
theorem slabs1 (t : Fin cfg0.N) (r : Fin 196) (l : Fin 256) :
    at' (slabs c (grid0.coords t) (Memref.whole main_v1) (V m c main_v1)) (ix2 r l)
      = chans (preds m c) (lane t l) ⟨r.val / 14, by omega⟩ ⟨r.val % 14, by omega⟩ :=
  funext fun k => (slabs_apply c t (Memref.whole main_v1) _ r l k).trans (V1_apply m c r _ _)
/-- The copied slabs of the targets at one cell: its channels. -/
theorem slabs3 (t : Fin cfg0.N) (r : Fin 196) (l : Fin 256) :
    at' (slabs c (grid0.coords t) (Memref.whole main_v3) (V m c main_v3)) (ix2 r l)
      = chans (targs m c) (lane t l) ⟨r.val / 14, by omega⟩ ⟨r.val % 14, by omega⟩ :=
  funext fun k => (slabs_apply c t (Memref.whole main_v3) _ r l k).trans (V3_apply m c r _ _)

/-- A cell's cross entropies, from the arguments. -/
theorem cls_apply (t : Fin cfg0.N) (r : Fin 196) (l : Fin 256) :
    k0_pay1 (F := Ideal) (iblk m c 0 t) (iblk m c 1 t) (ix2 r l)
      = ∑ k : Fin 30, Scalar.select (IntOp.cmpi .sge (BitVec.ofNat 32 k.val) 10#32)
          (Spec.entropy (preds m c (ix4 (lane t l) ⟨r.val / 14, by omega⟩ ⟨r.val % 14, by omega⟩ k))
            (targs m c (ix4 (lane t l) ⟨r.val / 14, by omega⟩ ⟨r.val % 14, by omega⟩ k))) (Spec.k 0x00000000#32) :=
  (pay1_apply _ _ r l).trans (Finset.sum_congr rfl fun k _ =>
    congrArg₂ (fun a b => Scalar.select (IntOp.cmpi .sge (BitVec.ofNat 32 k.val) 10#32) (Spec.entropy a b) (Spec.k 0x00000000#32))
      ((iblk0_apply m c t r k l).trans (V1_apply m c r k _)) ((iblk1_apply m c t r k l).trans (V3_apply m c r k _)))

/-- A sum over a block's cells, by what each cell holds. -/
theorem sum_tile (t : Fin cfg0.N) (f : S196x256.Idx → EReal) (g : Fin 1024 → Fin 14 → Fin 14 → EReal)
    (h : ∀ r l, f (ix2 r l) = g (lane t l) ⟨r.val / 14, by omega⟩ ⟨r.val % 14, by omega⟩) : ∑ x, f x = tile g t :=
  (sum_idx2 f).trans (Finset.sum_congr rfl fun r _ => Finset.sum_congr rfl fun l _ => h r l)

/-- A grid point's share, from the arguments. -/
theorem share_eq (t : Fin cfg0.N) :
    share (slabs c (grid0.coords t) (Memref.whole main_v1) (V m c main_v1)) (slabs c (grid0.coords t) (Memref.whole main_v3) (V m c main_v3))
      (k0_pay1 (F := Ideal) (iblk m c 0 t) (iblk m c 1 t)) = pointShare (preds m c) (targs m c) t := by
  have hp := slabs1 m c t
  have hq := slabs3 m c t
  have hc := cls_apply m c t
  revert hp hq hc
  generalize slabs c (grid0.coords t) (Memref.whole main_v1) (V m c main_v1) = p
  generalize slabs c (grid0.coords t) (Memref.whole main_v3) (V m c main_v3) = q
  generalize k0_pay1 (F := Ideal) (iblk m c 0 t) (iblk m c 1 t) = w
  intro hp hq hc
  unfold share pointShare
  rw [sum_tile t (fun x => Spec.objCell (at' p x) (at' q x) (colAt x) (rowAt x)) (fun b y x => Spec.objCell (chans (preds m c) b y x) (chans (targs m c) b y x) (off x.val) (off y.val)) (fun r l => by rw [hp r l, hq r l, colAt_apply, rowAt_apply]),
    sum_tile t (fun x => Spec.allCell (at' p x) (at' q x)) (fun b y x => Spec.allCell (chans (preds m c) b y x) (chans (targs m c) b y x)) (fun r l => by rw [hp r l, hq r l]),
    sum_tile t (fun x => Spec.boxCell Spec.atanReduced (at' p x) (at' q x) (colAt x) (rowAt x)) (fun b y x => Spec.boxCell Spec.atanReduced (chans (preds m c) b y x) (chans (targs m c) b y x) (off x.val) (off y.val)) (fun r l => by rw [hp r l, hq r l, colAt_apply, rowAt_apply]),
    sum_tile t (fun x => Scalar.select (Spec.obj (at' q x 9)) (w x) (Spec.k 0x00000000#32)) (clsCell (preds m c) (targs m c))
      (fun r l => by rw [hc r l, hq r l]; rfl)]

/-- One step of the running sum. -/
theorem step_apply (t : Fin cfg0.N) (y : S1x1.Idx) : accAfter m c (t.val + 1) y
    = Scalar.select (Scalar.cmpi .eq (BitVec.ofNat 32 t.val) 3#32)
          (Ideal.div (Scalar.select (Scalar.cmpi .eq (BitVec.ofNat 32 t.val) 0#32) (Spec.k 0x00000000#32) (accAfter m c t.val y)
            + pointShare (preds m c) (targs m c) t) (Spec.k 0x44800000#32))
          (Scalar.select (Scalar.cmpi .eq (BitVec.ofNat 32 t.val) 0#32) (Spec.k 0x00000000#32) (accAfter m c t.val y)
            + pointShare (preds m c) (targs m c) t) := by
  rw [accAfter_succ]
  unfold stepVal
  rw [outVal_apply, share_eq, point]

/-- The grid's points by number. -/
def tt (n : Fin 4) : Fin cfg0.N := ⟨n.val, by have : cfg0.N = 4 := by decide +kernel
                                              omega⟩

/-- The running sum after the last point. -/
theorem acc_last (y : S1x1.Idx) : accAfter m c 4 y
    = Ideal.div (pointShare (preds m c) (targs m c) (tt 0) + pointShare (preds m c) (targs m c) (tt 1) + pointShare (preds m c) (targs m c) (tt 2)
        + pointShare (preds m c) (targs m c) (tt 3)) (Spec.k 0x44800000#32) := by
  refine (step_apply m c (tt 3) y).trans ?_
  refine congrArg (fun s => Ideal.div (s + _) _) ?_
  refine (step_apply m c (tt 2) y).trans ?_
  refine congrArg (fun s => s + _) ?_
  refine (step_apply m c (tt 1) y).trans ?_
  refine congrArg (fun s => s + _) ?_
  refine (step_apply m c (tt 0) y).trans ?_
  exact (congrArg (fun s => s + _) Ideal.ofBits_zero_f32).trans (zero_add _)

/-- The region's array ends at the running sum after the last point. -/
theorem sumArr_eq : sumArr m c = accAfter m c 4 := by
  unfold sumArr
  refine (dats m 0 c).arrAt_eq_of_covers 2 _ (by decide +kernel) fun t hf y => ?_
  have ht : ∀ t : Fin cfg0.N, (cfg0.win 2).flush t = true → t.val = 3 := by decide +kernel
  blk_simp
  rw [after_2, ht t hf]
  exact (acc_last m c _).trans (acc_last m c _).symm

/-- The kernel's result. -/
theorem result_eq : result m c = fun _ => Ideal.div (pointShare (preds m c) (targs m c) (tt 0) + pointShare (preds m c) (targs m c) (tt 1)
    + pointShare (preds m c) (targs m c) (tt 2) + pointShare (preds m c) (targs m c) (tt 3)) (Spec.k 0x44800000#32) := by
  funext j
  unfold result
  after_results
  rw [Vr_v4, sumArr_eq]
  exact acc_last m c _

end Cert.KernelIdeal.Hand

end
-- ==== Proof.SpecEq.lean ====
/-
  The two ways of writing one cell's loss agree: the arctangents, and the cross entropies inside the precondition.
-/
module

public import proofs.«01_k».proof.Proof.Spec
public import Idealize.ShloMosaic.Lib.Pointwise
public import Idealize.ShloMosaic.Lib.IdealHost

@[expose] public section

noncomputable section

namespace Cert.Spec

open Idealize.ShloMosaic

/-- A pattern whose exponent is not all ones denotes a real number. -/
theorem k_real (b : BitVec 32) (h : (b.extractLsb' 23 8).toNat ≠ 2 ^ 8 - 1) : ∃ r : ℝ, k b = r := by
  unfold k Ideal.ofBits Ideal.ieee
  simp only
  rw [if_neg h]
  split_ifs <;> exact ⟨_, rfl⟩

/-- A normal pattern with no sign denotes a positive number. -/
theorem k_pos (b : BitVec 32) (h : (b.extractLsb' 23 8).toNat ≠ 2 ^ 8 - 1) (h0 : (b.extractLsb' 23 8).toNat ≠ 0) (hs : b.extractLsb' 31 1 = 0#1) : 0 < k b := by
  unfold k Ideal.ofBits Ideal.ieee
  simp only
  rw [if_neg h, if_neg h0]
  rw [show (8 + 23 : ℕ) = 31 from rfl, hs]
  refine EReal.coe_pos.2 ?_
  simp
  positivity

/-- The pattern of one. -/
theorem k_one : k 0x3F800000#32 = 1 := Ideal.ofBits_one_f32
/-- The pattern of zero. -/
theorem k_zero : k 0x00000000#32 = 0 := Ideal.ofBits_zero_f32
/-- The pattern of minus one. -/
theorem k_neg_one : k 0xBF800000#32 = ((-1 : ℝ) : EReal) := by
  unfold k Ideal.ofBits Ideal.ieee
  simp
  norm_num
  norm_cast
  norm_num

/-- The two arctangents agree from zero on. -/
theorem atan_eq (x : EReal) (hx : 0 ≤ x) : atanReduced x = atanRanges x := by
  obtain ⟨a, ha⟩ := k_real 0x3DA4F0D1#32 (by decide)
  obtain ⟨b, hb⟩ := k_real 0x3E0E1B85#32 (by decide)
  obtain ⟨c, hc⟩ := k_real 0x3E4C925F#32 (by decide)
  obtain ⟨d, hd⟩ := k_real 0x3EAAAA2A#32 (by decide)
  obtain ⟨e, he⟩ := k_real 0x3FC90FDB#32 (by decide)
  obtain ⟨f, hf⟩ := k_real 0x3F490FDB#32 (by decide)
  obtain ⟨g, hg⟩ := k_real 0x401A827A#32 (by decide)
  have hg0 : 0 < k 0x401A827A#32 := k_pos _ (by decide) (by decide) (by decide)
  unfold atanReduced atanRanges oddSeries Scalar.select
  rw [ha, hb, hc, hd, he, hf, k_one, k_neg_one, k_zero]
  by_cases h1 : Ideal.cmp .ogt x (k 0x401A827A#32) = 1
  · simp only [h1, if_true]
    rw [Ideal.cmp_ogt_eq_one] at h1
    have h2 : x ≠ 0 := (hg0.trans h1).ne'
    obtain ⟨v, hv, hv'⟩ : ∃ v : ℝ, Ideal.div 1 x = v ∧ Ideal.div ((-1 : ℝ) : EReal) x = ((-v : ℝ) : EReal) := by
      unfold Ideal.div
      rw [if_neg h2, if_neg h2]
      induction x with
      | bot => exact absurd hx (by simp)
      | top => exact ⟨0, by simp, by simp⟩
      | coe r => exact ⟨r⁻¹, by rw [one_mul, EReal.coe_inv], by rw [← EReal.coe_inv, ← EReal.coe_mul]; simp⟩
    rw [hv, hv']
    norm_cast
    ring
  · simp only [h1, if_false]
    rw [Ideal.cmp_ogt_eq_one, not_lt] at h1
    have hr : ∃ r : ℝ, x = r := by
      rw [hg] at h1
      induction x with
      | bot => exact absurd hx (by simp)
      | top => exact absurd h1 (by simp)
      | coe r => exact ⟨r, rfl⟩
    obtain ⟨r, rfl⟩ := hr
    have hr0 : 0 ≤ r := EReal.coe_nonneg.1 hx
    by_cases h3 : Ideal.cmp .ogt (r : EReal) (k 0x3ED413CD#32) = 1
    · simp only [h3, if_true]
      obtain ⟨u, hu⟩ : ∃ u : ℝ, Ideal.div ((r : EReal) - 1) ((r : EReal) + 1) = u := by
        refine ⟨(r - 1) * (r + 1)⁻¹, ?_⟩
        unfold Ideal.div
        rw [if_neg (by norm_cast; positivity), EReal.coe_mul, EReal.coe_inv]
        norm_cast
      rw [hu]
      norm_cast
      ring
    · simp only [h3, if_false]
      rw [zero_add]
      norm_cast
      ring

/-- A side is positive. -/
theorem side_pos (lo hi : EReal) : 0 < side lo hi :=
  lt_of_lt_of_le (k_pos _ (by decide) (by decide) (by decide)) (le_max_right _ _)

/-- A quotient of two sides is not negative. -/
theorem ratio_nonneg (x y : EReal) (hx : 0 < x) (hy : 0 < y) : 0 ≤ Ideal.div x y := by
  unfold Ideal.div
  rw [if_neg hy.ne']
  exact mul_nonneg hx.le (EReal.inv_nonneg_of_nonneg hy.le)

/-- The aspect terms agree. -/
theorem aspect_eq (a b : Box) : aspect atanReduced a b = aspect atanRanges a b := by
  unfold aspect
  rw [atan_eq _ (ratio_nonneg _ _ (side_pos _ _) (side_pos _ _)), atan_eq _ (ratio_nonneg _ _ (side_pos _ _) (side_pos _ _))]

/-- The box losses agree. -/
theorem loss_eq (a b : Box) : loss atanReduced a b = loss atanRanges a b := by
  unfold loss
  rw [aspect_eq]

/-- A cell's box losses agree. -/
theorem boxCell_eq (p t : Fin 10 → EReal) (i j : EReal) : boxCell atanReduced p t i j = boxCell atanRanges p t i j := by
  unfold boxCell
  rw [loss_eq, loss_eq]

/-- The least class probability the precondition allows is at least two to the minus forty. -/
theorem low_le : (((2 : ℝ) ^ (-40 : ℤ) : ℝ) : EReal) ≤ k 0x2B8CBCCC#32 := by
  unfold k Ideal.ofBits Ideal.ieee
  simp
  norm_num
  norm_cast
  norm_num
/-- The greatest class probability the precondition allows is one less two to the minus twenty-four. -/
theorem high_eq : k 0x3F7FFFFF#32 = ((1 - (2 : ℝ) ^ (-24 : ℤ) : ℝ) : EReal) := by
  unfold k Ideal.ofBits Ideal.ieee
  simp
  norm_num
  norm_cast
  norm_num
/-- The logarithm's floor is minus one hundred. -/
theorem floor_eq : k 0xC2C80000#32 = ((-100 : ℝ) : EReal) := by
  unfold k Ideal.ofBits Ideal.ieee
  simp
  norm_num
  norm_cast
  norm_num

/-- The logarithm of a number from two to the minus forty on is above minus one hundred. -/
theorem log_ge (r : ℝ) (n : ℕ) (hn : n ≤ 40) (h : (2 : ℝ) ^ (-(n : ℤ)) ≤ r) : -100 ≤ Real.log r := by
  have h2 : Real.log ((2 : ℝ) ^ (-(n : ℤ))) ≤ Real.log r := Real.log_le_log (by positivity) h
  rw [Real.log_zpow] at h2
  have h3 := Real.log_le_sub_one_of_pos (show (0 : ℝ) < 2 by norm_num)
  have h4 : (n : ℝ) ≤ 40 := by exact_mod_cast hn
  have h5 := Real.log_nonneg (show (1 : ℝ) ≤ 2 by norm_num)
  push_cast at h2
  nlinarith

/-- Inside the precondition the two cross entropies agree. -/
theorem entropy_eq (p t : EReal) (h1 : k 0x2B8CBCCC#32 ≤ p) (h2 : p ≤ k 0x3F7FFFFF#32) (ht : t ≠ ⊥) (ht' : t ≠ ⊤) :
    entropy p t = entropyClipped p t := by
  have hlow := low_le.trans h1
  rw [high_eq] at h2
  induction p with
  | bot => exact absurd hlow (by simp)
  | top => exact absurd h2 (not_le.2 (EReal.coe_lt_top _))
  | coe r =>
    lift t to ℝ using ⟨ht', ht⟩
    have a1 : (2 : ℝ) ^ (-40 : ℤ) ≤ r := EReal.coe_le_coe_iff.1 hlow
    have a2 : r ≤ 1 - (2 : ℝ) ^ (-24 : ℤ) := EReal.coe_le_coe_iff.1 h2
    have p1 : 0 < r := lt_of_lt_of_le (by positivity) a1
    have p2 : 0 < 1 - r := lt_of_lt_of_le (by positivity : (0 : ℝ) < (2 : ℝ) ^ (-24 : ℤ)) (by linarith)
    have l1 := log_ge r 40 (by norm_num) a1
    have l2 := log_ge (1 - r) 24 (by norm_num) (by push_cast; linarith)
    have e1 : Ideal.log (r : EReal) = ((Real.log r : ℝ) : EReal) := if_neg (not_le.2 p1)
    have e2 : Ideal.log (((1 - r : ℝ)) : EReal) = ((Real.log (1 - r) : ℝ) : EReal) := if_neg (not_le.2 p2)
    unfold entropy entropyClipped
    simp only
    rw [max_eq_left h1, max_eq_right h1, k_one, min_eq_right (by rw [← EReal.coe_one]; exact EReal.coe_le_coe_iff.2 (by linarith)),
      show (1 : EReal) - (r : EReal) = ((1 - r : ℝ) : EReal) by norm_cast, e1, e2, floor_eq, k_zero,
      max_eq_left (EReal.coe_le_coe_iff.2 l1), max_eq_left (EReal.coe_le_coe_iff.2 l2)]
    norm_cast
    ring

end Cert.Spec

end
-- ==== Proof.Inside.lean ====
/-
  The precondition read at one cell: what it says of a confidence and of a class channel.
-/
module

public import proofs.«01_k».proof.Pre_confidences_finite_classes_inside
public import proofs.«01_k».proof.Proof.RefSum

@[expose] public section

noncomputable section

namespace Cert.Inside

open Idealize.ShloMosaic Cert.Pre_confidences_finite_classes_inside
open Cert.ReferenceIdeal.Cell (chans cls)

/-- The precondition's side condition. -/
theorem facts : Cert.Pre_confidences_finite_classes_inside.Facts where
  bcast_S_S1024x14x14x30 := by decide

attribute [local instance] facts

/-- Both halves of a one-bit conjunction. -/
theorem both : ∀ u v : BitVec 1, IntOp.andi u v = 1#1 → u = 1#1 ∧ v = 1#1 := by decide
/-- A disjunction whose first half is the negation of one. -/
theorem second : ∀ u v : BitVec 1, u = 1#1 → IntOp.ori (~~~u) v = 1#1 → v = 1#1 := by decide
/-- The pattern of minus infinity. -/
theorem k_bot : Spec.k 0xFF800000#32 = ⊥ := by
  unfold Spec.k Ideal.ofBits Ideal.ieee
  simp
/-- The pattern of plus infinity. -/
theorem k_top : Spec.k 0x7F800000#32 = ⊤ := by
  unfold Spec.k Ideal.ofBits Ideal.ieee
  simp

variable (P T : FVec Ideal S1024x14x14x30 .f32) (b : Fin 1024) (y x : Fin 14)

/-- Whether a number lies strictly between the infinities, as one bit. -/
def finBit (v : EReal) : BitVec 1 := IntOp.andi (Ideal.cmp .ogt v (Spec.k 0xFF800000#32)) (Ideal.cmp .olt v (Spec.k 0x7F800000#32))

/-- That bit is set only of a real number. -/
theorem finBit_real (v : EReal) (h : finBit v = 1#1) : ∃ r : ℝ, v = r := by
  obtain ⟨h1, h2⟩ := both _ _ h
  have a1 := (Ideal.cmp_ogt_eq_one _ _).1 h1
  have a2 := (Ideal.cmp_olt_eq_one _ _).1 h2
  rw [k_bot] at a1
  rw [k_top] at a2
  induction v with
  | bot => exact absurd a1 (lt_irrefl _)
  | top => exact absurd a2 (lt_irrefl _)
  | coe r => exact ⟨r, rfl⟩

/-- The precondition at one element. -/
theorem fn_apply (k : Fin 30) : fn (F := Ideal) P T (ix4 b y x k)
    = Scalar.select (IntOp.cmpi .sge (BitVec.ofNat 32 k.val) 10#32)
        (IntOp.andi (IntOp.andi (Ideal.cmp .oge (P (ix4 b y x k)) (Spec.k 0x2B8CBCCC#32)) (Ideal.cmp .ole (P (ix4 b y x k)) (Spec.k 0x3F7FFFFF#32)))
          (finBit (T (ix4 b y x k))))
        (IntOp.ori (~~~(IntOp.ori (IntOp.cmpi .eq (BitVec.ofNat 32 k.val) 4#32) (IntOp.cmpi .eq (BitVec.ofNat 32 k.val) 9#32)))
          (IntOp.andi (finBit (P (ix4 b y x k))) (finBit (T (ix4 b y x k))))) := rfl

variable (h : fn (F := Ideal) P T = fun _ => 1#1)
include h

/-- A confidence of an admitted input is a real number, predicted and target alike. -/
theorem conf_real (k : Fin 30) (hk : k = 4 ∨ k = 9) : (∃ r : ℝ, P (ix4 b y x k) = r) ∧ ∃ r : ℝ, T (ix4 b y x k) = r := by
  have e := (fn_apply P T b y x k).symm.trans (congrFun h _)
  have n : IntOp.cmpi .sge (BitVec.ofNat 32 k.val) 10#32 ≠ (1 : BitVec 1) := by rcases hk with rfl | rfl <;> decide
  have n' : IntOp.ori (IntOp.cmpi .eq (BitVec.ofNat 32 k.val) 4#32) (IntOp.cmpi .eq (BitVec.ofNat 32 k.val) 9#32) = 1#1 := by
    rcases hk with rfl | rfl <;> decide
  unfold Scalar.select at e
  rw [if_neg n] at e
  obtain ⟨u, v⟩ := both _ _ (second _ _ n' e)
  exact ⟨finBit_real _ u, finBit_real _ v⟩

/-- A class channel of an admitted input: the prediction between the bounds, the target a real number. -/
theorem cls_inside (c : Fin 20) : Spec.k 0x2B8CBCCC#32 ≤ cls P b y x c ∧ cls P b y x c ≤ Spec.k 0x3F7FFFFF#32 ∧ ∃ r : ℝ, cls T b y x c = r := by
  have e := (fn_apply P T b y x ⟨10 + c.val, by omega⟩).symm.trans (congrFun h _)
  have n : ∀ c : Fin 20, IntOp.cmpi .sge (BitVec.ofNat 32 (10 + c.val)) 10#32 = (1 : BitVec 1) := by decide
  unfold Scalar.select at e
  rw [if_pos (n c)] at e
  obtain ⟨u, v⟩ := both _ _ e
  obtain ⟨u1, u2⟩ := both _ _ u
  exact ⟨(Ideal.cmp_oge_eq_one _ _).1 u1, (Ideal.cmp_ole_eq_one _ _).1 u2, finBit_real _ v⟩

end Cert.Inside

end
-- ==== Proof.Join.lean ====
/-
  The kernel's sums over grid points and the reference's over cells are the same loss.
-/
module

public import proofs.«01_k».proof.Proof.KernelSum
public import proofs.«01_k».proof.Proof.SpecEq
public import proofs.«01_k».proof.Proof.Inside

@[expose] public section

set_option maxRecDepth 2048

noncomputable section

namespace Cert.Join

open Idealize.ShloMosaic Idealize.ShloMosaic.StableHlo
open Cert.KernelIdeal (cfg0)
open Cert.KernelIdeal.Hand (tile tt lane pointShare clsCell)
open Cert.ReferenceIdeal.Cell (off chans cls cells cells_congr noobjCell maskA maskB total)

/-- The rows of a slab are the cells of the fourteen by fourteen grid. -/
theorem sum_grid (h : Fin 14 → Fin 14 → EReal) :
    (∑ r : Fin 196, h ⟨r.val / 14, by omega⟩ ⟨r.val % 14, by omega⟩) = ∑ y : Fin 14, ∑ x : Fin 14, h y x := by
  rw [Fin.sum_univ_tiles 14 14 rfl]
  refine Finset.sum_congr rfl fun y _ => Finset.sum_congr rfl fun x _ => ?_
  congr 1
  · exact Fin.ext (by simp only; omega)
  · exact Fin.ext (by simp only; omega)

/-- One grid point's cells, image by image. -/
theorem tile_eq (g : Fin 1024 → Fin 14 → Fin 14 → EReal) (n : Fin 4) :
    tile g (tt n) = ∑ l : Fin 256, ∑ y : Fin 14, ∑ x : Fin 14, g ⟨n.val * 256 + l.val, by omega⟩ y x := by
  unfold tile
  rw [Finset.sum_comm]
  refine Finset.sum_congr rfl fun l _ => (sum_grid (g (lane (tt n) l))).trans ?_
  have e : lane (tt n) l = ⟨n.val * 256 + l.val, by omega⟩ := Fin.ext (by unfold lane tt; simp only; omega)
  rw [e]

/-- The four grid points cover every cell once. -/
theorem tiles_eq (g : Fin 1024 → Fin 14 → Fin 14 → EReal) : tile g (tt 0) + tile g (tt 1) + tile g (tt 2) + tile g (tt 3) = cells g := by
  unfold cells
  rw [Fin.sum_univ_tiles 4 256 rfl, Fin.sum_univ_four, tile_eq, tile_eq, tile_eq, tile_eq]

/-- Sums over one grid point add. -/
theorem tile_add (f g : Fin 1024 → Fin 14 → Fin 14 → EReal) (t : Fin cfg0.N) : tile (fun b y x => f b y x + g b y x) t = tile f t + tile g t := by
  unfold tile
  simp only [Finset.sum_add_distrib]

/-- A sum of real numbers over one grid point is real. -/
theorem tile_real (f : Fin 1024 → Fin 14 → Fin 14 → EReal) (h : ∀ b y x, ∃ r : ℝ, f b y x = r) (t : Fin cfg0.N) : ∃ r : ℝ, tile f t = r := by
  have hadd : ∀ u v : EReal, (∃ r : ℝ, u = r) → (∃ r : ℝ, v = r) → ∃ r : ℝ, u + v = r := by
    rintro _ _ ⟨r, rfl⟩ ⟨s, rfl⟩
    exact ⟨r + s, (EReal.coe_add r s).symm⟩
  refine Finset.sum_induction _ (fun u : EReal => ∃ r : ℝ, u = r) hadd ⟨0, rfl⟩ fun r _ => ?_
  exact Finset.sum_induction _ (fun u : EReal => ∃ r : ℝ, u = r) hadd ⟨0, rfl⟩ fun l _ => h _ _ _

/-- Taking a real number away again. -/
theorem add_sub_real (u v : EReal) (h : ∃ r : ℝ, u = r) : u + v - u = v := by
  obtain ⟨r, rfl⟩ := h
  induction v with
  | bot => simp
  | top => simp
  | coe s => rw [← EReal.coe_add, ← EReal.coe_sub]; congr 1; ring

/-- A selection and the one on the opposite mask share out the value. -/
theorem select_split (u : BitVec 1) (a : EReal) : a = Scalar.select u a (Spec.k 0x00000000#32) + Scalar.select (~~~u) a (Spec.k 0x00000000#32) := by
  have h : ∀ u : BitVec 1, (u = 1 ∧ ¬ ~~~u = 1) ∨ (¬ u = 1 ∧ ~~~u = 1) := by decide
  unfold Scalar.select
  rcases h u with ⟨h1, h2⟩ | ⟨h1, h2⟩
  · rw [if_pos h1, if_neg h2, Spec.k_zero, add_zero]
  · rw [if_neg h1, if_pos h2, Spec.k_zero, zero_add]

/-- A cell's confidence error is that of the boxes with an object and of those without. -/
theorem all_eq (p t : Fin 10 → EReal) (i j : EReal) : Spec.allCell p t = Spec.objCell p t i j + noobjCell p t i j := by
  unfold Spec.allCell
  rw [select_split (maskA p t i j) (Spec.sq (p 4) (t 4)), select_split (maskB p t i j) (Spec.sq (p 9) (t 9)), add_add_add_comm]
  rfl

/-- Between real confidences the error of the boxes with an object is real. -/
theorem obj_real (p t : Fin 10 → EReal) (i j : EReal) (h4 : (∃ r : ℝ, p 4 = r) ∧ ∃ r : ℝ, t 4 = r) (h9 : (∃ r : ℝ, p 9 = r) ∧ ∃ r : ℝ, t 9 = r) :
    ∃ r : ℝ, Spec.objCell p t i j = r := by
  have hs : ∀ u v : EReal, ((∃ r : ℝ, u = r) ∧ ∃ r : ℝ, v = r) → ∀ w : BitVec 1, ∃ r : ℝ, Scalar.select w (Spec.sq u v) (Spec.k 0x00000000#32) = r := by
    rintro _ _ ⟨⟨r, rfl⟩, ⟨s, rfl⟩⟩ w
    unfold Scalar.select
    split_ifs
    · exact ⟨(r - s) * (r - s), by unfold Spec.sq; rw [EReal.coe_mul, EReal.coe_sub]⟩
    · exact ⟨0, Spec.k_zero⟩
  obtain ⟨r, hr⟩ := hs _ _ h4 (maskA p t i j)
  obtain ⟨s, h⟩ := hs _ _ h9 (maskB p t i j)
  exact ⟨r + s, (congrArg₂ (· + ·) hr h).trans (EReal.coe_add r s).symm⟩

/-- A positive constant distributes over four summands. -/
theorem dist4 (w : EReal) (h : 0 ≤ w) (h' : w ≠ ⊤) (a b c d : EReal) : w * a + w * b + w * c + w * d = w * (a + b + c + d) := by
  rw [EReal.left_distrib_of_nonneg_of_ne_top h h', EReal.left_distrib_of_nonneg_of_ne_top h h', EReal.left_distrib_of_nonneg_of_ne_top h h']

/-- A weight is positive and real, so that it distributes. -/
theorem weight (b : BitVec 32) (h : (b.extractLsb' 23 8).toNat ≠ 2 ^ 8 - 1) (h0 : (b.extractLsb' 23 8).toNat ≠ 0) (hs : b.extractLsb' 31 1 = 0#1) :
    0 ≤ Spec.k b ∧ Spec.k b ≠ ⊤ := by
  refine ⟨(Spec.k_pos b h h0 hs).le, ?_⟩
  obtain ⟨r, hr⟩ := Spec.k_real b h
  rw [hr]
  exact EReal.coe_ne_top r

/-- Four shares of four terms, gathered term by term. -/
theorem gather (wn wb wc : EReal) (hn : 0 ≤ wn ∧ wn ≠ ⊤) (hb : 0 ≤ wb ∧ wb ≠ ⊤) (hc : 0 ≤ wc ∧ wc ≠ ⊤) (o n b c : Fin 4 → EReal) :
    (o 0 + wn * n 0 + wb * b 0 + wc * c 0) + (o 1 + wn * n 1 + wb * b 1 + wc * c 1) + (o 2 + wn * n 2 + wb * b 2 + wc * c 2)
        + (o 3 + wn * n 3 + wb * b 3 + wc * c 3)
      = (o 0 + o 1 + o 2 + o 3) + wn * (n 0 + n 1 + n 2 + n 3) + wb * (b 0 + b 1 + b 2 + b 3) + (c 0 + c 1 + c 2 + c 3) * wc := by
  rw [mul_comm _ wc, ← dist4 wn hn.1 hn.2, ← dist4 wb hb.1 hb.2, ← dist4 wc hc.1 hc.2]
  abel

variable (P T : FVec Ideal Cert.Pre_confidences_finite_classes_inside.S1024x14x14x30 .f32)

attribute [local instance] Cert.Inside.facts

variable (h : Cert.Pre_confidences_finite_classes_inside.fn (F := Ideal) P T = fun _ => 1#1)
include h

/-- A cell's cross entropies, the kernel's and the reference's. -/
theorem cls_eq (b : Fin 1024) (y x : Fin 14) : clsCell P T b y x
    = ∑ c : Fin 20, Scalar.select (Spec.obj (chans T b y x 9)) (Spec.entropyClipped (cls P b y x c) (cls T b y x c)) (Spec.k 0x00000000#32) := by
  have n : ∀ c : Fin 20, IntOp.cmpi .sge (BitVec.ofNat 32 (10 + c.val)) 10#32 = (1 : BitVec 1) := by decide
  have n' : ∀ c : Fin 10, ¬ IntOp.cmpi .sge (BitVec.ofNat 32 c.val) 10#32 = (1 : BitVec 1) := by decide
  have s : (∑ c : Fin 30, Scalar.select (IntOp.cmpi .sge (BitVec.ofNat 32 c.val) 10#32) (Spec.entropy (P (ix4 b y x c)) (T (ix4 b y x c))) (Spec.k 0x00000000#32))
      = ∑ c : Fin 20, Spec.entropyClipped (cls P b y x c) (cls T b y x c) := by
    refine (Fin.sum_univ_add (a := 10) (b := 20) _).trans ?_
    refine (congrArg₂ (· + ·) (Finset.sum_eq_zero fun c _ => ?_) (Finset.sum_congr rfl fun c _ => ?_)).trans (zero_add _)
    · exact (if_neg (n' c)).trans Spec.k_zero
    · obtain ⟨h1, h2, r, hr⟩ := Cert.Inside.cls_inside P T b y x h c
      refine (if_pos (n c)).trans (Spec.entropy_eq _ _ h1 h2 ?_ ?_)
      · exact fun e => EReal.coe_ne_bot r (hr.symm.trans e)
      · exact fun e => EReal.coe_ne_top r (hr.symm.trans e)
  unfold clsCell
  rw [s]
  by_cases hu : Spec.obj (chans T b y x 9) = 1
  · rw [hu]; rfl
  · unfold Scalar.select
    simp only [if_neg hu, Spec.k_zero, Finset.sum_const_zero]

/-- One grid point's share, with the reference's cell terms. -/
theorem share_eq' (t : Fin cfg0.N) : pointShare P T t
    = tile (fun b y x => Spec.objCell (chans P b y x) (chans T b y x) (off x.val) (off y.val)) t
      + Spec.k 0x3E4CCCCD#32 * tile (fun b y x => noobjCell (chans P b y x) (chans T b y x) (off x.val) (off y.val)) t
      + Spec.k 0x40E00000#32 * tile (fun b y x => Spec.boxCell Spec.atanRanges (chans P b y x) (chans T b y x) (off x.val) (off y.val)) t
      + Spec.k 0x3FC00000#32 * tile (fun b y x => ∑ c : Fin 20, Scalar.select (Spec.obj (chans T b y x 9))
          (Spec.entropyClipped (cls P b y x c) (cls T b y x c)) (Spec.k 0x00000000#32)) t := by
  have ea : (fun (b : Fin 1024) (y x : Fin 14) => Spec.allCell (chans P b y x) (chans T b y x))
      = fun b y x => Spec.objCell (chans P b y x) (chans T b y x) (off x.val) (off y.val)
          + noobjCell (chans P b y x) (chans T b y x) (off x.val) (off y.val) :=
    funext fun b => funext fun y => funext fun x => all_eq _ _ _ _
  have eb : (fun (b : Fin 1024) (y x : Fin 14) => Spec.boxCell Spec.atanReduced (chans P b y x) (chans T b y x) (off x.val) (off y.val))
      = fun b y x => Spec.boxCell Spec.atanRanges (chans P b y x) (chans T b y x) (off x.val) (off y.val) :=
    funext fun b => funext fun y => funext fun x => Spec.boxCell_eq _ _ _ _
  have ec : clsCell P T = fun b y x => ∑ c : Fin 20, Scalar.select (Spec.obj (chans T b y x 9))
      (Spec.entropyClipped (cls P b y x c) (cls T b y x c)) (Spec.k 0x00000000#32) :=
    funext fun b => funext fun y => funext fun x => cls_eq P T h b y x
  unfold pointShare
  rw [ea, eb, ec, tile_add, add_sub_real _ _ (tile_real _ (fun b y x => obj_real _ _ _ _ (Cert.Inside.conf_real P T b y x h 4 (Or.inl rfl))
    (Cert.Inside.conf_real P T b y x h 9 (Or.inr rfl))) t)]

/-- The kernel's result is the reference's. -/
theorem join (V0 : Valuation Cert.ReferenceIdeal.τ Cert.ReferenceIdeal.sig (Elt Ideal)) (hP : Cert.ReferenceIdeal.Cell.preds V0 = P) (hT : Cert.ReferenceIdeal.Cell.targs V0 = T) :
    Ideal.div (pointShare P T (tt 0) + pointShare P T (tt 1) + pointShare P T (tt 2) + pointShare P T (tt 3)) (Spec.k 0x44800000#32) = total V0 := by
  unfold total Cert.ReferenceIdeal.Cell.cp Cert.ReferenceIdeal.Cell.ct
  rw [hP, hT]
  refine congrArg (fun s => Ideal.div s _) ?_
  simp only [share_eq' P T h]
  rw [← tiles_eq, ← tiles_eq, ← tiles_eq, ← tiles_eq]
  exact gather _ _ _ (weight _ (by decide) (by decide) (by decide)) (weight _ (by decide) (by decide) (by decide)) (weight _ (by decide) (by decide) (by decide))
    (fun n => tile _ (tt n)) (fun n => tile _ (tt n)) (fun n => tile _ (tt n)) (fun n => tile _ (tt n))

end Cert.Join

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Main
public import proofs.«01_k».proof.Proof.MainIdeal
public import proofs.«01_k».proof.Proof.Join
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The printed kernel, run on the machine's floats, ends with its arguments unchanged and every counter at zero. -/
theorem frame_kernel : Cert.quiescent_Kernel (hKernel := Cert.Kernel.Gen.facts) := fun m g _ =>
  (θ_run _ _ _).mono (fun _ h => ⟨fun c => ⟨(h.1 c).1, (h.1 c).2.1⟩, h.2⟩) (Cert.Kernel.Hand.run_main (F := Bits) m g)

/-- The kernel at the extended reals likewise. -/
theorem frame_ideal : Cert.quiescent_KernelIdeal (hKernelIdeal := Cert.KernelIdeal.Gen.facts) := fun m g _ =>
  (θ_run _ _ _).mono (fun _ h => ⟨fun c => ⟨(h.1 c).1, (h.1 c).2.1⟩, h.2⟩) (Cert.KernelIdeal.Hand.run_main (F := Ideal) m g)

/-- The reference at the extended reals likewise. -/
theorem frame_reference : Cert.quiescent_ReferenceIdeal (hReferenceIdeal := Cert.ReferenceIdeal.Gen.facts) := fun m g _ =>
  (θ_run _ _ _).mono (fun r h => ⟨fun c => ⟨(h c).2.1, (h c).2.2⟩, sem_eq_zero_of_no_sems (by decide) r.2⟩)
    (Cert.ReferenceIdeal.Value.run m g)

/-- From equal arguments the precondition admits, the kernel and the reference at the extended reals end with equal results. -/
theorem kernel_is_reference : Cert.algebraic_KernelIdeal_ReferenceIdeal_pre_confidences_finite_classes_inside
    (hKernelIdeal := Cert.KernelIdeal.Gen.facts) (hReferenceIdeal := Cert.ReferenceIdeal.Gen.facts)
    (hPre_confidences_finite_classes_inside := Cert.Inside.facts) := fun m g m' g' hpre hag =>
  ⟨fun c => Cert.KernelIdeal.Hand.result m c,
    (θ_run _ _ _).mono (fun _ h c => ⟨(h.1 c).2.2, (h.1 c).1, (h.1 c).2.1⟩) (Cert.KernelIdeal.Hand.run_main (F := Ideal) m g),
    (θ_run _ _ _).mono (fun _ h c => ⟨(h c).1.trans (((Cert.KernelIdeal.Hand.result_eq m c).trans (funext fun _ =>
        Cert.Join.join _ _ (hpre c) (StableHlo.launchContents m' c) (hag c).1 (hag c).2)).symm), (h c).2⟩)
      (Cert.ReferenceIdeal.Cell.run_total m' g')⟩

/-- The certificate's claim: the frames, the idealization's sanction, and the equal results. -/
theorem claim : Cert.Claim := ⟨Cert.Kernel.Gen.facts, Cert.KernelIdeal.Gen.facts, Cert.ReferenceIdeal.Gen.facts, Cert.Inside.facts,
  frame_kernel, frame_ideal, fun m g _ => frame_ideal m g trivial, frame_reference, fun m g _ => frame_reference m g trivial, trivial,
  kernel_is_reference⟩

end Cert.Proof

end
